-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x6144x2048 : Shape := ⟨3, ![2, 6144, 2048]⟩
abbrev S128 : Shape := ⟨1, ![128]⟩
abbrev S3072x128 : Shape := ⟨2, ![3072, 128]⟩
abbrev S3072x2048 : Shape := ⟨2, ![3072, 2048]⟩
abbrev S24x16 : Shape := ⟨2, ![24, 16]⟩
abbrev S128x1 : Shape := ⟨2, ![128, 1]⟩
abbrev S12288x2048 : Shape := ⟨2, ![12288, 2048]⟩
abbrev S12288x3072 : Shape := ⟨2, ![12288, 3072]⟩
abbrev S12288x16 : Shape := ⟨2, ![12288, 16]⟩
abbrev S512x2048 : Shape := ⟨2, ![512, 2048]⟩
abbrev S512x3072 : Shape := ⟨2, ![512, 3072]⟩
abbrev S512x16 : Shape := ⟨2, ![512, 16]⟩
abbrev S8x2048 : Shape := ⟨2, ![8, 2048]⟩
abbrev S128x2048 : Shape := ⟨2, ![128, 2048]⟩
abbrev S2048 : Shape := ⟨1, ![2048]⟩
abbrev S1x2048 : Shape := ⟨2, ![1, 2048]⟩
abbrev S256x128 : Shape := ⟨2, ![256, 128]⟩
abbrev S256x2048 : Shape := ⟨2, ![256, 2048]⟩
abbrev S1x128 : Shape := ⟨2, ![1, 128]⟩
abbrev S1x1 : Shape := ⟨2, ![1, 1]⟩
abbrev S128x128 : Shape := ⟨2, ![128, 128]⟩
abbrev S512x128 : Shape := ⟨2, ![512, 128]⟩
abbrev S512 : Shape := ⟨1, ![512]⟩
abbrev S512x1 : Shape := ⟨2, ![512, 1]⟩
abbrev S512x256 : Shape := ⟨2, ![512, 256]⟩

abbrev nBuf : Space → Nat
  | .hbm => 10
  | .vmem => 14
  | .smem => 1
  | _ => 0

abbrev bufTy : (tb : Table) → Fin (tcTables nBuf tb) → BufTy
  | .hbm, ⟨0, _⟩ => ⟨S2x6144x2048, .bf16⟩
  | .hbm, ⟨1, _⟩ => ⟨S128, .i32⟩
  | .hbm, ⟨2, _⟩ => ⟨S3072x128, .bf16⟩
  | .hbm, ⟨3, _⟩ => ⟨S3072x2048, .fp8e4m3⟩
  | .hbm, ⟨4, _⟩ => ⟨S24x16, .f32⟩
  | .hbm, ⟨5, _⟩ => ⟨S128x1, .i32⟩
  | .hbm, ⟨6, _⟩ => ⟨S12288x2048, .bf16⟩
  | .hbm, ⟨7, _⟩ => ⟨S12288x3072, .bf16⟩
  | .hbm, ⟨8, _⟩ => ⟨S12288x2048, .fp8e4m3⟩
  | .hbm, ⟨9, _⟩ => ⟨S12288x16, .f32⟩
  | .local _ .vmem, ⟨0, _⟩ => ⟨S128x1, .i32⟩
  | .local _ .vmem, ⟨1, _⟩ => ⟨S512x2048, .bf16⟩
  | .local _ .vmem, ⟨2, _⟩ => ⟨S512x2048, .bf16⟩
  | .local _ .vmem, ⟨3, _⟩ => ⟨S3072x128, .bf16⟩
  | .local _ .vmem, ⟨4, _⟩ => ⟨S3072x2048, .fp8e4m3⟩
  | .local _ .vmem, ⟨5, _⟩ => ⟨S512x3072, .bf16⟩
  | .local _ .vmem, ⟨6, _⟩ => ⟨S512x3072, .bf16⟩
  | .local _ .vmem, ⟨7, _⟩ => ⟨S512x2048, .fp8e4m3⟩
  | .local _ .vmem, ⟨8, _⟩ => ⟨S512x2048, .fp8e4m3⟩
  | .local _ .vmem, ⟨9, _⟩ => ⟨S512x16, .f32⟩
  | .local _ .vmem, ⟨10, _⟩ => ⟨S512x16, .f32⟩
  | .local _ .vmem, ⟨11, _⟩ => ⟨S8x2048, .i32⟩
  | .local _ .vmem, ⟨12, _⟩ => ⟨S3072x2048, .bf16⟩
  | .local _ .vmem, ⟨13, _⟩ => ⟨S512x2048, .bf16⟩
  | .local _ .smem, ⟨0, _⟩ => ⟨S24x16, .f32⟩
  | _, _ => ⟨S2x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_426 : BitVec 32 := 0#32
  let c12_i32 : BitVec 32 := 12#32
  let v1216 : BitVec 32 := Scalar.addi c0_i32_426 c12_i32
  let c1_i32_427 : BitVec 32 := 1#32
  ⟨c0_i32_426, v1216, c1_i32_427⟩
def k0_mult1 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32 : BitVec 32 := 256#32
  let v1219 : BitVec 32 := Scalar.muli v1218 c256_i32
  v1219
def k0_off1 (k0_t1 : Fin k0_t1_loop.trips) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32 : BitVec 32 := 256#32
  let v1219 : BitVec 32 := Scalar.muli v1218 c256_i32
  let v1220 : BitVec 32 := v1219
  let v1221 : Index := Scalar.indexCast v1220
  let c0_431 : Index := 0#32
  ![v1221.toNat, 0]
def k0_off2 (k0_t1 : Fin k0_t1_loop.trips) (c0_i32_435 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32 : BitVec 32 := 2#32
  let v1226 : BitVec 32 := Scalar.muli v1218 c2_i32
  let v1227 : BitVec 32 := Scalar.addi v1226 c0_i32_435
  let v1228 : Index := Scalar.indexCast v1227
  let c0_436 : Index := 0#32
  ![v1228.toNat, 0]
def k0_mult2 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_437 : BitVec 32 := 256#32
  let v1230 : BitVec 32 := Scalar.muli v1218 c256_i32_437
  let c0_i32_438 : BitVec 32 := 0#32
  let v1231 : BitVec 32 := Scalar.addi v1230 c0_i32_438
  v1231
def k0_off3 (k0_t1 : Fin k0_t1_loop.trips) (c0_i32_438 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_437 : BitVec 32 := 256#32
  let v1230 : BitVec 32 := Scalar.muli v1218 c256_i32_437
  let v1231 : BitVec 32 := Scalar.addi v1230 c0_i32_438
  let v1232 : BitVec 32 := v1231
  let v1233 : Index := Scalar.indexCast v1232
  let c0_439 : Index := 0#32
  ![v1233.toNat, 0]
def k0_mult3 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_441 : BitVec 32 := 256#32
  let v1245 : BitVec 32 := Scalar.muli v1218 c256_i32_441
  let c0_i32_442 : BitVec 32 := 0#32
  let v1246 : BitVec 32 := Scalar.addi v1245 c0_i32_442
  v1246
def k0_mult4 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_447 : BitVec 32 := 256#32
  let v1256 : BitVec 32 := Scalar.muli v1218 c256_i32_447
  let c128_i32 : BitVec 32 := 128#32
  let v1257 : BitVec 32 := Scalar.addi v1256 c128_i32
  v1257
def k0_mult5 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_450 : BitVec 32 := 256#32
  let v1271 : BitVec 32 := Scalar.muli v1218 c256_i32_450
  let c128_i32_451 : BitVec 32 := 128#32
  let v1272 : BitVec 32 := Scalar.addi v1271 c128_i32_451
  v1272
def k0_off4 (k0_t1 : Fin k0_t1_loop.trips) (c0_i32_456 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_455 : BitVec 32 := 2#32
  let v1279 : BitVec 32 := Scalar.muli v1218 c2_i32_455
  let v1280 : BitVec 32 := Scalar.addi v1279 c0_i32_456
  let v1281 : Index := Scalar.indexCast v1280
  let c1 : Index := 1#32
  ![v1281.toNat, 1]
def k0_mult6 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_457 : BitVec 32 := 256#32
  let v1283 : BitVec 32 := Scalar.muli v1218 c256_i32_457
  let c0_i32_458 : BitVec 32 := 0#32
  let v1284 : BitVec 32 := Scalar.addi v1283 c0_i32_458
  v1284
def k0_off5 (k0_t1 : Fin k0_t1_loop.trips) (c0_i32_458 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_457 : BitVec 32 := 256#32
  let v1283 : BitVec 32 := Scalar.muli v1218 c256_i32_457
  let v1284 : BitVec 32 := Scalar.addi v1283 c0_i32_458
  let v1285 : BitVec 32 := v1284
  let v1286 : Index := Scalar.indexCast v1285
  let c128_459 : Index := 128#32
  ![v1286.toNat, 128]
def k0_mult7 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_461 : BitVec 32 := 256#32
  let v1298 : BitVec 32 := Scalar.muli v1218 c256_i32_461
  let c0_i32_462 : BitVec 32 := 0#32
  let v1299 : BitVec 32 := Scalar.addi v1298 c0_i32_462
  v1299
def k0_mult8 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_467 : BitVec 32 := 256#32
  let v1309 : BitVec 32 := Scalar.muli v1218 c256_i32_467
  let c128_i32_468 : BitVec 32 := 128#32
  let v1310 : BitVec 32 := Scalar.addi v1309 c128_i32_468
  v1310
def k0_mult9 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_471 : BitVec 32 := 256#32
  let v1324 : BitVec 32 := Scalar.muli v1218 c256_i32_471
  let c128_i32_472 : BitVec 32 := 128#32
  let v1325 : BitVec 32 := Scalar.addi v1324 c128_i32_472
  v1325
def k0_off6 (k0_t1 : Fin k0_t1_loop.trips) (c0_i32_477 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_476 : BitVec 32 := 2#32
  let v1332 : BitVec 32 := Scalar.muli v1218 c2_i32_476
  let v1333 : BitVec 32 := Scalar.addi v1332 c0_i32_477
  let v1334 : Index := Scalar.indexCast v1333
  let c2 : Index := 2#32
  ![v1334.toNat, 2]
def k0_mult10 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_478 : BitVec 32 := 256#32
  let v1336 : BitVec 32 := Scalar.muli v1218 c256_i32_478
  let c0_i32_479 : BitVec 32 := 0#32
  let v1337 : BitVec 32 := Scalar.addi v1336 c0_i32_479
  v1337
def k0_off7 (k0_t1 : Fin k0_t1_loop.trips) (c0_i32_479 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_478 : BitVec 32 := 256#32
  let v1336 : BitVec 32 := Scalar.muli v1218 c256_i32_478
  let v1337 : BitVec 32 := Scalar.addi v1336 c0_i32_479
  let v1338 : BitVec 32 := v1337
  let v1339 : Index := Scalar.indexCast v1338
  let c256_480 : Index := 256#32
  ![v1339.toNat, 256]
def k0_mult11 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_482 : BitVec 32 := 256#32
  let v1351 : BitVec 32 := Scalar.muli v1218 c256_i32_482
  let c0_i32_483 : BitVec 32 := 0#32
  let v1352 : BitVec 32 := Scalar.addi v1351 c0_i32_483
  v1352
def k0_mult12 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_488 : BitVec 32 := 256#32
  let v1362 : BitVec 32 := Scalar.muli v1218 c256_i32_488
  let c128_i32_489 : BitVec 32 := 128#32
  let v1363 : BitVec 32 := Scalar.addi v1362 c128_i32_489
  v1363
def k0_mult13 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_492 : BitVec 32 := 256#32
  let v1377 : BitVec 32 := Scalar.muli v1218 c256_i32_492
  let c128_i32_493 : BitVec 32 := 128#32
  let v1378 : BitVec 32 := Scalar.addi v1377 c128_i32_493
  v1378
def k0_off8 (k0_t1 : Fin k0_t1_loop.trips) (c0_i32_498 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_497 : BitVec 32 := 2#32
  let v1385 : BitVec 32 := Scalar.muli v1218 c2_i32_497
  let v1386 : BitVec 32 := Scalar.addi v1385 c0_i32_498
  let v1387 : Index := Scalar.indexCast v1386
  let c3 : Index := 3#32
  ![v1387.toNat, 3]
def k0_mult14 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_499 : BitVec 32 := 256#32
  let v1389 : BitVec 32 := Scalar.muli v1218 c256_i32_499
  let c0_i32_500 : BitVec 32 := 0#32
  let v1390 : BitVec 32 := Scalar.addi v1389 c0_i32_500
  v1390
def k0_off9 (k0_t1 : Fin k0_t1_loop.trips) (c0_i32_500 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_499 : BitVec 32 := 256#32
  let v1389 : BitVec 32 := Scalar.muli v1218 c256_i32_499
  let v1390 : BitVec 32 := Scalar.addi v1389 c0_i32_500
  let v1391 : BitVec 32 := v1390
  let v1392 : Index := Scalar.indexCast v1391
  let c384_501 : Index := 384#32
  ![v1392.toNat, 384]
def k0_mult15 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_503 : BitVec 32 := 256#32
  let v1404 : BitVec 32 := Scalar.muli v1218 c256_i32_503
  let c0_i32_504 : BitVec 32 := 0#32
  let v1405 : BitVec 32 := Scalar.addi v1404 c0_i32_504
  v1405
def k0_mult16 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_509 : BitVec 32 := 256#32
  let v1415 : BitVec 32 := Scalar.muli v1218 c256_i32_509
  let c128_i32_510 : BitVec 32 := 128#32
  let v1416 : BitVec 32 := Scalar.addi v1415 c128_i32_510
  v1416
def k0_mult17 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_513 : BitVec 32 := 256#32
  let v1430 : BitVec 32 := Scalar.muli v1218 c256_i32_513
  let c128_i32_514 : BitVec 32 := 128#32
  let v1431 : BitVec 32 := Scalar.addi v1430 c128_i32_514
  v1431
def k0_off10 (k0_t1 : Fin k0_t1_loop.trips) (c0_i32_519 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_518 : BitVec 32 := 2#32
  let v1438 : BitVec 32 := Scalar.muli v1218 c2_i32_518
  let v1439 : BitVec 32 := Scalar.addi v1438 c0_i32_519
  let v1440 : Index := Scalar.indexCast v1439
  let c4 : Index := 4#32
  ![v1440.toNat, 4]
def k0_mult18 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_520 : BitVec 32 := 256#32
  let v1442 : BitVec 32 := Scalar.muli v1218 c256_i32_520
  let c0_i32_521 : BitVec 32 := 0#32
  let v1443 : BitVec 32 := Scalar.addi v1442 c0_i32_521
  v1443
def k0_off11 (k0_t1 : Fin k0_t1_loop.trips) (c0_i32_521 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_520 : BitVec 32 := 256#32
  let v1442 : BitVec 32 := Scalar.muli v1218 c256_i32_520
  let v1443 : BitVec 32 := Scalar.addi v1442 c0_i32_521
  let v1444 : BitVec 32 := v1443
  let v1445 : Index := Scalar.indexCast v1444
  let c512_522 : Index := 512#32
  ![v1445.toNat, 512]
def k0_mult19 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_524 : BitVec 32 := 256#32
  let v1457 : BitVec 32 := Scalar.muli v1218 c256_i32_524
  let c0_i32_525 : BitVec 32 := 0#32
  let v1458 : BitVec 32 := Scalar.addi v1457 c0_i32_525
  v1458
def k0_mult20 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_530 : BitVec 32 := 256#32
  let v1468 : BitVec 32 := Scalar.muli v1218 c256_i32_530
  let c128_i32_531 : BitVec 32 := 128#32
  let v1469 : BitVec 32 := Scalar.addi v1468 c128_i32_531
  v1469
def k0_mult21 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_534 : BitVec 32 := 256#32
  let v1483 : BitVec 32 := Scalar.muli v1218 c256_i32_534
  let c128_i32_535 : BitVec 32 := 128#32
  let v1484 : BitVec 32 := Scalar.addi v1483 c128_i32_535
  v1484
def k0_off12 (k0_t1 : Fin k0_t1_loop.trips) (c0_i32_540 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_539 : BitVec 32 := 2#32
  let v1491 : BitVec 32 := Scalar.muli v1218 c2_i32_539
  let v1492 : BitVec 32 := Scalar.addi v1491 c0_i32_540
  let v1493 : Index := Scalar.indexCast v1492
  let c5 : Index := 5#32
  ![v1493.toNat, 5]
def k0_mult22 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_541 : BitVec 32 := 256#32
  let v1495 : BitVec 32 := Scalar.muli v1218 c256_i32_541
  let c0_i32_542 : BitVec 32 := 0#32
  let v1496 : BitVec 32 := Scalar.addi v1495 c0_i32_542
  v1496
def k0_off13 (k0_t1 : Fin k0_t1_loop.trips) (c0_i32_542 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_541 : BitVec 32 := 256#32
  let v1495 : BitVec 32 := Scalar.muli v1218 c256_i32_541
  let v1496 : BitVec 32 := Scalar.addi v1495 c0_i32_542
  let v1497 : BitVec 32 := v1496
  let v1498 : Index := Scalar.indexCast v1497
  let c640_543 : Index := 640#32
  ![v1498.toNat, 640]
def k0_mult23 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_545 : BitVec 32 := 256#32
  let v1510 : BitVec 32 := Scalar.muli v1218 c256_i32_545
  let c0_i32_546 : BitVec 32 := 0#32
  let v1511 : BitVec 32 := Scalar.addi v1510 c0_i32_546
  v1511
def k0_mult24 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_551 : BitVec 32 := 256#32
  let v1521 : BitVec 32 := Scalar.muli v1218 c256_i32_551
  let c128_i32_552 : BitVec 32 := 128#32
  let v1522 : BitVec 32 := Scalar.addi v1521 c128_i32_552
  v1522
def k0_mult25 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_555 : BitVec 32 := 256#32
  let v1536 : BitVec 32 := Scalar.muli v1218 c256_i32_555
  let c128_i32_556 : BitVec 32 := 128#32
  let v1537 : BitVec 32 := Scalar.addi v1536 c128_i32_556
  v1537
def k0_off14 (k0_t1 : Fin k0_t1_loop.trips) (c0_i32_561 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_560 : BitVec 32 := 2#32
  let v1544 : BitVec 32 := Scalar.muli v1218 c2_i32_560
  let v1545 : BitVec 32 := Scalar.addi v1544 c0_i32_561
  let v1546 : Index := Scalar.indexCast v1545
  let c6 : Index := 6#32
  ![v1546.toNat, 6]
def k0_mult26 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_562 : BitVec 32 := 256#32
  let v1548 : BitVec 32 := Scalar.muli v1218 c256_i32_562
  let c0_i32_563 : BitVec 32 := 0#32
  let v1549 : BitVec 32 := Scalar.addi v1548 c0_i32_563
  v1549
def k0_off15 (k0_t1 : Fin k0_t1_loop.trips) (c0_i32_563 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_562 : BitVec 32 := 256#32
  let v1548 : BitVec 32 := Scalar.muli v1218 c256_i32_562
  let v1549 : BitVec 32 := Scalar.addi v1548 c0_i32_563
  let v1550 : BitVec 32 := v1549
  let v1551 : Index := Scalar.indexCast v1550
  let c768_564 : Index := 768#32
  ![v1551.toNat, 768]
def k0_mult27 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_566 : BitVec 32 := 256#32
  let v1563 : BitVec 32 := Scalar.muli v1218 c256_i32_566
  let c0_i32_567 : BitVec 32 := 0#32
  let v1564 : BitVec 32 := Scalar.addi v1563 c0_i32_567
  v1564
def k0_mult28 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_572 : BitVec 32 := 256#32
  let v1574 : BitVec 32 := Scalar.muli v1218 c256_i32_572
  let c128_i32_573 : BitVec 32 := 128#32
  let v1575 : BitVec 32 := Scalar.addi v1574 c128_i32_573
  v1575
def k0_mult29 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_576 : BitVec 32 := 256#32
  let v1589 : BitVec 32 := Scalar.muli v1218 c256_i32_576
  let c128_i32_577 : BitVec 32 := 128#32
  let v1590 : BitVec 32 := Scalar.addi v1589 c128_i32_577
  v1590
def k0_off16 (k0_t1 : Fin k0_t1_loop.trips) (c0_i32_582 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_581 : BitVec 32 := 2#32
  let v1597 : BitVec 32 := Scalar.muli v1218 c2_i32_581
  let v1598 : BitVec 32 := Scalar.addi v1597 c0_i32_582
  let v1599 : Index := Scalar.indexCast v1598
  let c7 : Index := 7#32
  ![v1599.toNat, 7]
def k0_mult30 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_583 : BitVec 32 := 256#32
  let v1601 : BitVec 32 := Scalar.muli v1218 c256_i32_583
  let c0_i32_584 : BitVec 32 := 0#32
  let v1602 : BitVec 32 := Scalar.addi v1601 c0_i32_584
  v1602
def k0_off17 (k0_t1 : Fin k0_t1_loop.trips) (c0_i32_584 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_583 : BitVec 32 := 256#32
  let v1601 : BitVec 32 := Scalar.muli v1218 c256_i32_583
  let v1602 : BitVec 32 := Scalar.addi v1601 c0_i32_584
  let v1603 : BitVec 32 := v1602
  let v1604 : Index := Scalar.indexCast v1603
  let c896_585 : Index := 896#32
  ![v1604.toNat, 896]
def k0_mult31 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_587 : BitVec 32 := 256#32
  let v1616 : BitVec 32 := Scalar.muli v1218 c256_i32_587
  let c0_i32_588 : BitVec 32 := 0#32
  let v1617 : BitVec 32 := Scalar.addi v1616 c0_i32_588
  v1617
def k0_mult32 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_593 : BitVec 32 := 256#32
  let v1627 : BitVec 32 := Scalar.muli v1218 c256_i32_593
  let c128_i32_594 : BitVec 32 := 128#32
  let v1628 : BitVec 32 := Scalar.addi v1627 c128_i32_594
  v1628
def k0_mult33 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_597 : BitVec 32 := 256#32
  let v1642 : BitVec 32 := Scalar.muli v1218 c256_i32_597
  let c128_i32_598 : BitVec 32 := 128#32
  let v1643 : BitVec 32 := Scalar.addi v1642 c128_i32_598
  v1643
def k0_off18 (k0_t1 : Fin k0_t1_loop.trips) (c0_i32_603 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_602 : BitVec 32 := 2#32
  let v1650 : BitVec 32 := Scalar.muli v1218 c2_i32_602
  let v1651 : BitVec 32 := Scalar.addi v1650 c0_i32_603
  let v1652 : Index := Scalar.indexCast v1651
  let c8 : Index := 8#32
  ![v1652.toNat, 8]
def k0_mult34 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_604 : BitVec 32 := 256#32
  let v1654 : BitVec 32 := Scalar.muli v1218 c256_i32_604
  let c0_i32_605 : BitVec 32 := 0#32
  let v1655 : BitVec 32 := Scalar.addi v1654 c0_i32_605
  v1655
def k0_off19 (k0_t1 : Fin k0_t1_loop.trips) (c0_i32_605 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_604 : BitVec 32 := 256#32
  let v1654 : BitVec 32 := Scalar.muli v1218 c256_i32_604
  let v1655 : BitVec 32 := Scalar.addi v1654 c0_i32_605
  let v1656 : BitVec 32 := v1655
  let v1657 : Index := Scalar.indexCast v1656
  let c1024_606 : Index := 1024#32
  ![v1657.toNat, 1024]
def k0_mult35 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_608 : BitVec 32 := 256#32
  let v1669 : BitVec 32 := Scalar.muli v1218 c256_i32_608
  let c0_i32_609 : BitVec 32 := 0#32
  let v1670 : BitVec 32 := Scalar.addi v1669 c0_i32_609
  v1670
def k0_mult36 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_614 : BitVec 32 := 256#32
  let v1680 : BitVec 32 := Scalar.muli v1218 c256_i32_614
  let c128_i32_615 : BitVec 32 := 128#32
  let v1681 : BitVec 32 := Scalar.addi v1680 c128_i32_615
  v1681
def k0_mult37 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_618 : BitVec 32 := 256#32
  let v1695 : BitVec 32 := Scalar.muli v1218 c256_i32_618
  let c128_i32_619 : BitVec 32 := 128#32
  let v1696 : BitVec 32 := Scalar.addi v1695 c128_i32_619
  v1696
def k0_off20 (k0_t1 : Fin k0_t1_loop.trips) (c0_i32_624 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_623 : BitVec 32 := 2#32
  let v1703 : BitVec 32 := Scalar.muli v1218 c2_i32_623
  let v1704 : BitVec 32 := Scalar.addi v1703 c0_i32_624
  let v1705 : Index := Scalar.indexCast v1704
  let c9 : Index := 9#32
  ![v1705.toNat, 9]
def k0_mult38 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_625 : BitVec 32 := 256#32
  let v1707 : BitVec 32 := Scalar.muli v1218 c256_i32_625
  let c0_i32_626 : BitVec 32 := 0#32
  let v1708 : BitVec 32 := Scalar.addi v1707 c0_i32_626
  v1708
def k0_off21 (k0_t1 : Fin k0_t1_loop.trips) (c0_i32_626 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_625 : BitVec 32 := 256#32
  let v1707 : BitVec 32 := Scalar.muli v1218 c256_i32_625
  let v1708 : BitVec 32 := Scalar.addi v1707 c0_i32_626
  let v1709 : BitVec 32 := v1708
  let v1710 : Index := Scalar.indexCast v1709
  let c1152_627 : Index := 1152#32
  ![v1710.toNat, 1152]
def k0_mult39 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_629 : BitVec 32 := 256#32
  let v1722 : BitVec 32 := Scalar.muli v1218 c256_i32_629
  let c0_i32_630 : BitVec 32 := 0#32
  let v1723 : BitVec 32 := Scalar.addi v1722 c0_i32_630
  v1723
def k0_mult40 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_635 : BitVec 32 := 256#32
  let v1733 : BitVec 32 := Scalar.muli v1218 c256_i32_635
  let c128_i32_636 : BitVec 32 := 128#32
  let v1734 : BitVec 32 := Scalar.addi v1733 c128_i32_636
  v1734
def k0_mult41 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_639 : BitVec 32 := 256#32
  let v1748 : BitVec 32 := Scalar.muli v1218 c256_i32_639
  let c128_i32_640 : BitVec 32 := 128#32
  let v1749 : BitVec 32 := Scalar.addi v1748 c128_i32_640
  v1749
def k0_off22 (k0_t1 : Fin k0_t1_loop.trips) (c0_i32_645 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_644 : BitVec 32 := 2#32
  let v1756 : BitVec 32 := Scalar.muli v1218 c2_i32_644
  let v1757 : BitVec 32 := Scalar.addi v1756 c0_i32_645
  let v1758 : Index := Scalar.indexCast v1757
  let c10 : Index := 10#32
  ![v1758.toNat, 10]
def k0_mult42 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_646 : BitVec 32 := 256#32
  let v1760 : BitVec 32 := Scalar.muli v1218 c256_i32_646
  let c0_i32_647 : BitVec 32 := 0#32
  let v1761 : BitVec 32 := Scalar.addi v1760 c0_i32_647
  v1761
def k0_off23 (k0_t1 : Fin k0_t1_loop.trips) (c0_i32_647 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_646 : BitVec 32 := 256#32
  let v1760 : BitVec 32 := Scalar.muli v1218 c256_i32_646
  let v1761 : BitVec 32 := Scalar.addi v1760 c0_i32_647
  let v1762 : BitVec 32 := v1761
  let v1763 : Index := Scalar.indexCast v1762
  let c1280_648 : Index := 1280#32
  ![v1763.toNat, 1280]
def k0_mult43 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_650 : BitVec 32 := 256#32
  let v1775 : BitVec 32 := Scalar.muli v1218 c256_i32_650
  let c0_i32_651 : BitVec 32 := 0#32
  let v1776 : BitVec 32 := Scalar.addi v1775 c0_i32_651
  v1776
def k0_mult44 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_656 : BitVec 32 := 256#32
  let v1786 : BitVec 32 := Scalar.muli v1218 c256_i32_656
  let c128_i32_657 : BitVec 32 := 128#32
  let v1787 : BitVec 32 := Scalar.addi v1786 c128_i32_657
  v1787
def k0_mult45 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_660 : BitVec 32 := 256#32
  let v1801 : BitVec 32 := Scalar.muli v1218 c256_i32_660
  let c128_i32_661 : BitVec 32 := 128#32
  let v1802 : BitVec 32 := Scalar.addi v1801 c128_i32_661
  v1802
def k0_off24 (k0_t1 : Fin k0_t1_loop.trips) (c0_i32_666 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_665 : BitVec 32 := 2#32
  let v1809 : BitVec 32 := Scalar.muli v1218 c2_i32_665
  let v1810 : BitVec 32 := Scalar.addi v1809 c0_i32_666
  let v1811 : Index := Scalar.indexCast v1810
  let c11 : Index := 11#32
  ![v1811.toNat, 11]
def k0_mult46 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_667 : BitVec 32 := 256#32
  let v1813 : BitVec 32 := Scalar.muli v1218 c256_i32_667
  let c0_i32_668 : BitVec 32 := 0#32
  let v1814 : BitVec 32 := Scalar.addi v1813 c0_i32_668
  v1814
def k0_off25 (k0_t1 : Fin k0_t1_loop.trips) (c0_i32_668 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_667 : BitVec 32 := 256#32
  let v1813 : BitVec 32 := Scalar.muli v1218 c256_i32_667
  let v1814 : BitVec 32 := Scalar.addi v1813 c0_i32_668
  let v1815 : BitVec 32 := v1814
  let v1816 : Index := Scalar.indexCast v1815
  let c1408_669 : Index := 1408#32
  ![v1816.toNat, 1408]
def k0_mult47 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_671 : BitVec 32 := 256#32
  let v1828 : BitVec 32 := Scalar.muli v1218 c256_i32_671
  let c0_i32_672 : BitVec 32 := 0#32
  let v1829 : BitVec 32 := Scalar.addi v1828 c0_i32_672
  v1829
def k0_mult48 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_677 : BitVec 32 := 256#32
  let v1839 : BitVec 32 := Scalar.muli v1218 c256_i32_677
  let c128_i32_678 : BitVec 32 := 128#32
  let v1840 : BitVec 32 := Scalar.addi v1839 c128_i32_678
  v1840
def k0_mult49 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_681 : BitVec 32 := 256#32
  let v1854 : BitVec 32 := Scalar.muli v1218 c256_i32_681
  let c128_i32_682 : BitVec 32 := 128#32
  let v1855 : BitVec 32 := Scalar.addi v1854 c128_i32_682
  v1855
def k0_off26 (k0_t1 : Fin k0_t1_loop.trips) (c0_i32_687 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_686 : BitVec 32 := 2#32
  let v1862 : BitVec 32 := Scalar.muli v1218 c2_i32_686
  let v1863 : BitVec 32 := Scalar.addi v1862 c0_i32_687
  let v1864 : Index := Scalar.indexCast v1863
  let c12 : Index := 12#32
  ![v1864.toNat, 12]
def k0_mult50 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_688 : BitVec 32 := 256#32
  let v1866 : BitVec 32 := Scalar.muli v1218 c256_i32_688
  let c0_i32_689 : BitVec 32 := 0#32
  let v1867 : BitVec 32 := Scalar.addi v1866 c0_i32_689
  v1867
def k0_off27 (k0_t1 : Fin k0_t1_loop.trips) (c0_i32_689 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_688 : BitVec 32 := 256#32
  let v1866 : BitVec 32 := Scalar.muli v1218 c256_i32_688
  let v1867 : BitVec 32 := Scalar.addi v1866 c0_i32_689
  let v1868 : BitVec 32 := v1867
  let v1869 : Index := Scalar.indexCast v1868
  let c1536_690 : Index := 1536#32
  ![v1869.toNat, 1536]
def k0_mult51 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_692 : BitVec 32 := 256#32
  let v1881 : BitVec 32 := Scalar.muli v1218 c256_i32_692
  let c0_i32_693 : BitVec 32 := 0#32
  let v1882 : BitVec 32 := Scalar.addi v1881 c0_i32_693
  v1882
def k0_mult52 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_698 : BitVec 32 := 256#32
  let v1892 : BitVec 32 := Scalar.muli v1218 c256_i32_698
  let c128_i32_699 : BitVec 32 := 128#32
  let v1893 : BitVec 32 := Scalar.addi v1892 c128_i32_699
  v1893
def k0_mult53 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_702 : BitVec 32 := 256#32
  let v1907 : BitVec 32 := Scalar.muli v1218 c256_i32_702
  let c128_i32_703 : BitVec 32 := 128#32
  let v1908 : BitVec 32 := Scalar.addi v1907 c128_i32_703
  v1908
def k0_off28 (k0_t1 : Fin k0_t1_loop.trips) (c0_i32_708 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_707 : BitVec 32 := 2#32
  let v1915 : BitVec 32 := Scalar.muli v1218 c2_i32_707
  let v1916 : BitVec 32 := Scalar.addi v1915 c0_i32_708
  let v1917 : Index := Scalar.indexCast v1916
  let c13 : Index := 13#32
  ![v1917.toNat, 13]
def k0_mult54 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_709 : BitVec 32 := 256#32
  let v1919 : BitVec 32 := Scalar.muli v1218 c256_i32_709
  let c0_i32_710 : BitVec 32 := 0#32
  let v1920 : BitVec 32 := Scalar.addi v1919 c0_i32_710
  v1920
def k0_off29 (k0_t1 : Fin k0_t1_loop.trips) (c0_i32_710 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_709 : BitVec 32 := 256#32
  let v1919 : BitVec 32 := Scalar.muli v1218 c256_i32_709
  let v1920 : BitVec 32 := Scalar.addi v1919 c0_i32_710
  let v1921 : BitVec 32 := v1920
  let v1922 : Index := Scalar.indexCast v1921
  let c1664_711 : Index := 1664#32
  ![v1922.toNat, 1664]
def k0_mult55 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_713 : BitVec 32 := 256#32
  let v1934 : BitVec 32 := Scalar.muli v1218 c256_i32_713
  let c0_i32_714 : BitVec 32 := 0#32
  let v1935 : BitVec 32 := Scalar.addi v1934 c0_i32_714
  v1935
def k0_mult56 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_719 : BitVec 32 := 256#32
  let v1945 : BitVec 32 := Scalar.muli v1218 c256_i32_719
  let c128_i32_720 : BitVec 32 := 128#32
  let v1946 : BitVec 32 := Scalar.addi v1945 c128_i32_720
  v1946
def k0_mult57 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_723 : BitVec 32 := 256#32
  let v1960 : BitVec 32 := Scalar.muli v1218 c256_i32_723
  let c128_i32_724 : BitVec 32 := 128#32
  let v1961 : BitVec 32 := Scalar.addi v1960 c128_i32_724
  v1961
def k0_off30 (k0_t1 : Fin k0_t1_loop.trips) (c0_i32_729 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_728 : BitVec 32 := 2#32
  let v1968 : BitVec 32 := Scalar.muli v1218 c2_i32_728
  let v1969 : BitVec 32 := Scalar.addi v1968 c0_i32_729
  let v1970 : Index := Scalar.indexCast v1969
  let c14 : Index := 14#32
  ![v1970.toNat, 14]
def k0_mult58 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_730 : BitVec 32 := 256#32
  let v1972 : BitVec 32 := Scalar.muli v1218 c256_i32_730
  let c0_i32_731 : BitVec 32 := 0#32
  let v1973 : BitVec 32 := Scalar.addi v1972 c0_i32_731
  v1973
def k0_off31 (k0_t1 : Fin k0_t1_loop.trips) (c0_i32_731 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_730 : BitVec 32 := 256#32
  let v1972 : BitVec 32 := Scalar.muli v1218 c256_i32_730
  let v1973 : BitVec 32 := Scalar.addi v1972 c0_i32_731
  let v1974 : BitVec 32 := v1973
  let v1975 : Index := Scalar.indexCast v1974
  let c1792_732 : Index := 1792#32
  ![v1975.toNat, 1792]
def k0_mult59 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_734 : BitVec 32 := 256#32
  let v1987 : BitVec 32 := Scalar.muli v1218 c256_i32_734
  let c0_i32_735 : BitVec 32 := 0#32
  let v1988 : BitVec 32 := Scalar.addi v1987 c0_i32_735
  v1988
def k0_mult60 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_740 : BitVec 32 := 256#32
  let v1998 : BitVec 32 := Scalar.muli v1218 c256_i32_740
  let c128_i32_741 : BitVec 32 := 128#32
  let v1999 : BitVec 32 := Scalar.addi v1998 c128_i32_741
  v1999
def k0_mult61 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_744 : BitVec 32 := 256#32
  let v2013 : BitVec 32 := Scalar.muli v1218 c256_i32_744
  let c128_i32_745 : BitVec 32 := 128#32
  let v2014 : BitVec 32 := Scalar.addi v2013 c128_i32_745
  v2014
def k0_off32 (k0_t1 : Fin k0_t1_loop.trips) (c0_i32_750 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c2_i32_749 : BitVec 32 := 2#32
  let v2021 : BitVec 32 := Scalar.muli v1218 c2_i32_749
  let v2022 : BitVec 32 := Scalar.addi v2021 c0_i32_750
  let v2023 : Index := Scalar.indexCast v2022
  let c15 : Index := 15#32
  ![v2023.toNat, 15]
def k0_mult62 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_751 : BitVec 32 := 256#32
  let v2025 : BitVec 32 := Scalar.muli v1218 c256_i32_751
  let c0_i32_752 : BitVec 32 := 0#32
  let v2026 : BitVec 32 := Scalar.addi v2025 c0_i32_752
  v2026
def k0_off33 (k0_t1 : Fin k0_t1_loop.trips) (c0_i32_752 : BitVec 32) : Fin 2 → Nat :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_751 : BitVec 32 := 256#32
  let v2025 : BitVec 32 := Scalar.muli v1218 c256_i32_751
  let v2026 : BitVec 32 := Scalar.addi v2025 c0_i32_752
  let v2027 : BitVec 32 := v2026
  let v2028 : Index := Scalar.indexCast v2027
  let c1920_753 : Index := 1920#32
  ![v2028.toNat, 1920]
def k0_mult63 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_755 : BitVec 32 := 256#32
  let v2040 : BitVec 32 := Scalar.muli v1218 c256_i32_755
  let c0_i32_756 : BitVec 32 := 0#32
  let v2041 : BitVec 32 := Scalar.addi v2040 c0_i32_756
  v2041
def k0_mult64 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_761 : BitVec 32 := 256#32
  let v2051 : BitVec 32 := Scalar.muli v1218 c256_i32_761
  let c128_i32_762 : BitVec 32 := 128#32
  let v2052 : BitVec 32 := Scalar.addi v2051 c128_i32_762
  v2052
def k0_mult65 (k0_t1 : Fin k0_t1_loop.trips) : BitVec 32 :=
  let c0_i32_430 : BitVec 32 := 0#32
  let c0_i32_426 : BitVec 32 := 0#32
  let c1_i32_427 : BitVec 32 := 1#32
  let arg12 : BitVec 32 := Scf.iv c0_i32_426 c1_i32_427 k0_t1
  let c1_i32_429 : BitVec 32 := 1#32
  let v1217 : BitVec 32 := Scalar.muli arg12 c1_i32_429
  let v1218 : BitVec 32 := Scalar.addi c0_i32_430 v1217
  let c256_i32_765 : BitVec 32 := 256#32
  let v2066 : BitVec 32 := Scalar.muli v1218 c256_i32_765
  let c128_i32_766 : BitVec 32 := 128#32
  let v2067 : BitVec 32 := Scalar.addi v2066 c128_i32_766
  v2067
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S24x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3072x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3072x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x16 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S2x6144x2048 : Shape := ⟨3, ![2, 6144, 2048]⟩
abbrev S128 : Shape := ⟨1, ![128]⟩
abbrev S3072x128 : Shape := ⟨2, ![3072, 128]⟩
abbrev S3072x2048 : Shape := ⟨2, ![3072, 2048]⟩
abbrev S24x16 : Shape := ⟨2, ![24, 16]⟩
abbrev S12288x2048 : Shape := ⟨2, ![12288, 2048]⟩
abbrev S128x1 : Shape := ⟨2, ![128, 1]⟩
abbrev S12288x3072 : Shape := ⟨2, ![12288, 3072]⟩
abbrev S12288x16 : Shape := ⟨2, ![12288, 16]⟩
abbrev S128x2048 : Shape := ⟨2, ![128, 2048]⟩
abbrev S2048 : Shape := ⟨1, ![2048]⟩
abbrev S1x2048 : Shape := ⟨2, ![1, 2048]⟩
abbrev S12288x16x128 : Shape := ⟨3, ![12288, 16, 128]⟩
abbrev S12288x16x1 : Shape := ⟨3, ![12288, 16, 1]⟩
abbrev S24x128x16x128 : Shape := ⟨4, ![24, 128, 16, 128]⟩
abbrev S24x1x16x1 : Shape := ⟨4, ![24, 1, 16, 1]⟩

abbrev nBuf : Space → Nat
  | .hbm => 10
  | .vmem => 8
  | .smem => 0
  | _ => 0

abbrev bufTy : (tb : Table) → Fin (tcTables nBuf tb) → BufTy
  | .hbm, ⟨0, _⟩ => ⟨S2x6144x2048, .bf16⟩
  | .hbm, ⟨1, _⟩ => ⟨S128, .i32⟩
  | .hbm, ⟨2, _⟩ => ⟨S3072x128, .bf16⟩
  | .hbm, ⟨3, _⟩ => ⟨S3072x2048, .fp8e4m3⟩
  | .hbm, ⟨4, _⟩ => ⟨S24x16, .f32⟩
  | .hbm, ⟨5, _⟩ => ⟨S12288x2048, .bf16⟩
  | .hbm, ⟨6, _⟩ => ⟨S128x1, .i32⟩
  | .hbm, ⟨7, _⟩ => ⟨S12288x3072, .bf16⟩
  | .hbm, ⟨8, _⟩ => ⟨S12288x2048, .fp8e4m3⟩
  | .hbm, ⟨9, _⟩ => ⟨S12288x16, .f32⟩
  | .local _ .vmem, ⟨0, _⟩ => ⟨S12288x2048, .bf16⟩
  | .local _ .vmem, ⟨1, _⟩ => ⟨S128x1, .i32⟩
  | .local _ .vmem, ⟨2, _⟩ => ⟨S3072x128, .bf16⟩
  | .local _ .vmem, ⟨3, _⟩ => ⟨S3072x2048, .fp8e4m3⟩
  | .local _ .vmem, ⟨4, _⟩ => ⟨S24x16, .f32⟩
  | .local _ .vmem, ⟨5, _⟩ => ⟨S12288x3072, .bf16⟩
  | .local _ .vmem, ⟨6, _⟩ => ⟨S12288x2048, .fp8e4m3⟩
  | .local _ .vmem, ⟨7, _⟩ => ⟨S12288x16, .f32⟩
  | _, _ => ⟨S2x6144x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S12288x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S12288x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12288x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S12288x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Exponent.lean ====
/-
  The power-of-two scale of a block, as plain mathematics over the extended reals.

  The kernel reads the exponent of a block's largest magnitude `a` by counting the thresholds
  `step 0 < step 1 < … < step 255` that `a` reaches, and builds the words of the scale and of its inverse from the count.
  The reference computes `floor (log₂ (a / 448)) + 1`. `scale_eq` and `inv_eq` say that both give the same numbers.
-/
module

public import Idealize.ShloMosaic.PureOps.Ideal
public import Idealize.ShloMosaic.Lib.ValueIdx
public import Idealize.ShloMosaic.Lib.Pointwise

@[expose] public section

set_option maxRecDepth 16384

noncomputable section

namespace Cert.Quant

open Idealize.ShloMosaic

/-! ## The words -/

/-- A bf16 word with exponent field `e` (neither 0 nor 255) and fraction `fr` denotes `(128 + fr) · 2 ^ (e - 134)`. -/
theorem ofBits_field (e fr : ℕ) (he : 0 < e) (he' : e < 255) (hfr : fr < 128) :
    Ideal.ofBits .bf16 (BitVec.ofNat 16 (128 * e + fr)) = (((128 + fr : ℕ) * (2 : ℝ) ^ ((e : ℤ) - 134) : ℝ) : EReal) := by
  have hneg : ((BitVec.ofNat 16 (128 * e + fr)).extractLsb' (8 + 7) 1 == 1#1) = false := by
    have : ((BitVec.ofNat 16 (128 * e + fr)).extractLsb' (8 + 7) 1).toNat = 0 := by
      rw [BitVec.extractLsb'_toNat, BitVec.toNat_ofNat, Nat.shiftRight_eq_div_pow]; omega
    rw [beq_eq_false_iff_ne]; intro h; rw [h] at this; simp at this
  have hex : ((BitVec.ofNat 16 (128 * e + fr)).extractLsb' 7 8).toNat = e := by
    rw [BitVec.extractLsb'_toNat, BitVec.toNat_ofNat, Nat.shiftRight_eq_div_pow]; omega
  have hf : ((BitVec.ofNat 16 (128 * e + fr)).extractLsb' 0 7).toNat = fr := by
    rw [BitVec.extractLsb'_toNat, BitVec.toNat_ofNat, Nat.shiftRight_eq_div_pow]; omega
  show Ideal.ieee 8 7 _ = _
  simp only [Ideal.ieee, hneg, hex, hf]
  rw [if_neg (by norm_num; omega), if_neg (by omega)]
  norm_num
  rw [show (e : ℤ) - 127 - 7 = (e : ℤ) - 134 by ring]

/-- A bf16 word with fraction 0 denotes the power of two of its exponent field. -/
theorem ofBits_pow (e : ℕ) (he : 0 < e) (he' : e < 255) :
    Ideal.ofBits .bf16 (BitVec.ofNat 16 (128 * e)) = (((2 : ℝ) ^ ((e : ℤ) - 127) : ℝ) : EReal) := by
  have h := ofBits_field e 0 he he' (by norm_num)
  rw [Nat.add_zero] at h
  rw [h]
  congr 1
  rw [show (e : ℤ) - 127 = 7 + ((e : ℤ) - 134) by ring, zpow_add₀ (by norm_num : (2 : ℝ) ≠ 0)]
  norm_num

/-- The threshold that `a` must reach for the exponent field `j`: the bf16 of the word `128 j - 32` (0 for `j = 0`). -/
def step (j : ℕ) : EReal := Ideal.ofBits .bf16 (BitVec.ofNat 16 (128 * j - 32))

/-- The first threshold is 0, which every magnitude reaches. -/
theorem step_zero : step 0 = 0 := by simp [step, Ideal.ofBits, Ideal.ieee]

/-- The second threshold is the subnormal `96 · 2⁻¹³³`. -/
theorem step_one : step 1 = ((96 * (2 : ℝ) ^ (-133 : ℤ) : ℝ) : EReal) := by
  simp [step, Ideal.ofBits, Ideal.ieee, -EReal.coe_mul]

/-- The other thresholds are `1.75` times a power of two, that is `448 · 2 ^ (j - 136)`. -/
theorem step_of_two_le (j : ℕ) (h2 : 2 ≤ j) (h : j ≤ 255) : step j = ((448 * (2 : ℝ) ^ ((j : ℤ) - 136) : ℝ) : EReal) := by
  have e : 128 * j - 32 = 128 * (j - 1) + 96 := by omega
  rw [step, e, ofBits_field (j - 1) 96 (by omega) (by omega) (by norm_num)]
  congr 1
  rw [Nat.cast_sub (by omega), show ((j : ℤ) - (1 : ℕ) - 134) = 1 + ((j : ℤ) - 136) by push_cast; ring,
    zpow_add₀ (by norm_num : (2 : ℝ) ≠ 0)]
  norm_num
  ring

/-- The thresholds increase. -/
theorem step_mono {j k : ℕ} (hjk : j ≤ k) (hk : k ≤ 255) : step j ≤ step k := by
  have succ : ∀ j, j < 255 → step j ≤ step (j + 1) := by
    intro j hj
    rcases Nat.lt_or_ge j 2 with h | h
    · interval_cases j
      · rw [step_zero, step_one]; exact EReal.coe_nonneg.mpr (by positivity)
      · rw [step_one, step_of_two_le 2 (by norm_num) (by norm_num)]; exact EReal.coe_le_coe_iff.mpr (by norm_num)
    · rw [step_of_two_le j h (by omega), step_of_two_le (j + 1) (by omega) (by omega)]
      refine EReal.coe_le_coe_iff.mpr (mul_le_mul_of_nonneg_left ?_ (by norm_num))
      exact zpow_le_zpow_right₀ (by norm_num) (by push_cast; omega)
  induction k, hjk using Nat.le_induction with
  | base => exact le_rfl
  | succ k _ ih => exact (ih (by omega)).trans (succ k (by omega))

open Classical in
/-- How many of the 256 thresholds the magnitude `a` reaches. -/
def reached (a : EReal) : ℕ := ((Finset.univ : Finset (Fin 256)).filter fun j => step j.val ≤ a).card

/-- A magnitude reaches the thresholds up to some `k`, and no other: so the count is `k + 1`. -/
theorem reached_eq (a : EReal) (ha : 0 ≤ a) :
    ∃ k, k ≤ 255 ∧ step k ≤ a ∧ (k = 255 ∨ a < step (k + 1)) ∧ reached a = k + 1 := by
  classical
  have h0 : step 0 ≤ a := by rw [step_zero]; exact ha
  let k := Nat.findGreatest (fun j => step j ≤ a) 255
  have hk : k ≤ 255 := Nat.findGreatest_le 255
  have hs : step k ≤ a := Nat.findGreatest_spec (P := fun j => step j ≤ a) (Nat.zero_le 255) h0
  have hg : ∀ j, k < j → j ≤ 255 → ¬step j ≤ a := fun j h h' => Nat.findGreatest_is_greatest h h'
  refine ⟨k, hk, hs, ?_, ?_⟩
  · by_cases h : k = 255
    · exact .inl h
    · exact .inr (not_le.mp (hg (k + 1) (by omega) (by omega)))
  · have : (Finset.univ : Finset (Fin 256)).filter (fun j => step j.val ≤ a) = Finset.Iic (⟨k, by omega⟩ : Fin 256) := by
      ext j
      simp only [Finset.mem_filter, Finset.mem_univ, true_and, Finset.mem_Iic, Fin.le_def]
      constructor
      · intro h2
        by_contra h
        exact hg j.val (by omega) (by omega) h2
      · intro h
        exact (step_mono h hk).trans hs
    rw [reached, this, Fin.card_Iic]

/-! ## The kernel's words -/

/-- The word of the exponent that the kernel finds from the count `n`: one less, in the exponent's place. -/
def fieldWord (n : ℕ) : BitVec 16 :=
  BitVec.setWidth 16 (IntOp.shli ArithUnit.vector (IntOp.subi (BitVec.ofNat 32 n) 1#32) 7#32)

/-- The word that the kernel's scale is built from, 8 exponents down: the block's own exponent where it is one, else that of 1. -/
def scaleWord (a : EReal) : BitVec 16 :=
  (if Ideal.ofBits .bf16 0x0500#16 ≤ Ideal.ofBits .bf16 (fieldWord (reached a)) ∧ a < ⊤ then fieldWord (reached a) else 17280#16)
    - 1024#16

/-- The kernel's scale of a block with largest magnitude `a`. -/
def kScale (a : EReal) : EReal := Ideal.ofBits .bf16 (scaleWord a)

/-- The kernel's inverse scale of a block with largest magnitude `a`. -/
def kInv (a : EReal) : EReal := Ideal.ofBits .bf16 (32512#16 - scaleWord a)

/-- The word of the count `k + 1` has the exponent field `k`. -/
theorem fieldWord_succ : ∀ k : Fin 256, fieldWord (k.val + 1) = BitVec.ofNat 16 (128 * k.val) := by decide +kernel

/-- The scale's word is 8 exponents down from the field's … -/
theorem field_sub : ∀ k : Fin 256, 10 ≤ k.val → BitVec.ofNat 16 (128 * k.val) - 1024#16 = BitVec.ofNat 16 (128 * (k.val - 8)) := by
  decide +kernel

/-- … and the inverse's is its mirror image. -/
theorem field_inv : ∀ k : Fin 256, 10 ≤ k.val →
    32512#16 - BitVec.ofNat 16 (128 * (k.val - 8)) = BitVec.ofNat 16 (128 * (262 - k.val)) := by
  decide +kernel

/-- A field is a normal number's of at least `2⁻¹¹⁷` exactly if it is at least 10. -/
theorem field_valid (k : ℕ) (hk : k ≤ 255) :
    Ideal.ofBits .bf16 0x0500#16 ≤ Ideal.ofBits .bf16 (BitVec.ofNat 16 (128 * k)) ↔ 10 ≤ k := by
  have h10 : Ideal.ofBits .bf16 0x0500#16 = (((2 : ℝ) ^ ((10 : ℤ) - 127) : ℝ) : EReal) := ofBits_pow 10 (by norm_num) (by norm_num)
  rw [h10]
  rcases Nat.eq_zero_or_pos k with rfl | h0
  · have : Ideal.ofBits .bf16 (BitVec.ofNat 16 (128 * 0)) = 0 := by simp [Ideal.ofBits, Ideal.ieee]
    rw [this]
    refine iff_of_false (not_le.mpr (EReal.coe_pos.mpr (by positivity))) (by norm_num)
  · rcases Nat.lt_or_ge k 255 with h | h
    · rw [ofBits_pow k h0 h, EReal.coe_le_coe_iff, zpow_le_zpow_iff_right₀ (by norm_num : (1 : ℝ) < 2)]
      omega
    · obtain rfl : k = 255 := by omega
      have : Ideal.ofBits .bf16 (BitVec.ofNat 16 (128 * 255)) = ⊤ := by simp [Ideal.ofBits, Ideal.ieee]
      rw [this]
      exact iff_of_true le_top (by norm_num)

/-- The kernel's scale and inverse, by the field `k` of a magnitude that reaches the thresholds up to `k`: a power of two and its
    inverse where the field is at least 10 and the magnitude finite, else 1 and 1. -/
theorem kernel_values (a : EReal) (k : ℕ) (hk : k ≤ 255) (h : reached a = k + 1) :
    (kScale a = if 10 ≤ k ∧ a < ⊤ then (((2 : ℝ) ^ ((k : ℤ) - 135) : ℝ) : EReal) else 1)
    ∧ (kInv a = if 10 ≤ k ∧ a < ⊤ then (((2 : ℝ) ^ (135 - (k : ℤ)) : ℝ) : EReal) else 1) := by
  have hf : fieldWord (reached a) = BitVec.ofNat 16 (128 * k) := by rw [h]; exact fieldWord_succ ⟨k, by omega⟩
  have one : Ideal.ofBits .bf16 0x3F80#16 = 1 := by
    simp [Ideal.ofBits, Ideal.ieee, -EReal.coe_mul]; norm_num
  rw [kScale, kInv, scaleWord, hf]
  simp only [field_valid k hk]
  by_cases hv : 10 ≤ k ∧ a < ⊤
  · rw [if_pos hv, if_pos hv, if_pos hv, field_sub ⟨k, by omega⟩ hv.1, field_inv ⟨k, by omega⟩ hv.1,
      ofBits_pow (k - 8) (by omega) (by omega), ofBits_pow (262 - k) (by omega) (by omega)]
    constructor
    · congr 2; omega
    · congr 2; omega
  · rw [if_neg hv, if_neg hv, if_neg hv]
    exact ⟨one, one⟩

/-- The word that the kernel reads as the threshold of the field `j`. -/
theorem stepWord : ∀ j : Fin 256,
    BitVec.setWidth 16 (IntOp.maxsi (IntOp.subi (IntOp.shli ArithUnit.vector (BitVec.ofNat 32 j.val) 7#32) 32#32) 0#32)
      = BitVec.ofNat 16 (128 * j.val - 32) := by decide +kernel

/-- Adding up 32-bit words that are 1 or 0 counts the ones. -/
theorem fold_count {n : ℕ} (p : Fin n → Bool) (S : Finset (Fin n)) :
    S.fold IntOp.addi 0#32 (fun x => BitVec.setWidth 32 (BitVec.ofBool (p x))) = BitVec.ofNat 32 (S.filter fun x => p x = true).card := by
  induction S using Finset.cons_induction with
  | empty => rfl
  | cons a S ha ih =>
    rw [Finset.fold_cons, ih, Finset.filter_cons]
    cases h : p a
    · rw [if_neg (by simp)]
      show BitVec.setWidth 32 (BitVec.ofBool false) + _ = _
      simp
    · rw [if_pos rfl, Finset.card_cons]
      show BitVec.setWidth 32 (BitVec.ofBool true) + _ = _
      rw [Nat.add_comm, BitVec.ofNat_add]
      rfl

/-- The signed maximum of 32-bit words that are 1 or 0, over at least one word: 1 if one of them is, else 0. -/
theorem fold_hit {n : ℕ} (p : Fin n → Bool) (S : Finset (Fin n)) (hS : S.Nonempty) :
    S.fold IntOp.maxsi 2147483648#32 (fun x => BitVec.setWidth 32 (BitVec.ofBool (p x)))
      = if ∃ x ∈ S, p x = true then 1#32 else 0#32 := by
  induction hS using Finset.Nonempty.cons_induction with
  | singleton a =>
    rw [Finset.fold_singleton]
    cases h : p a
    · rw [if_neg (by simp [h])]; decide
    · rw [if_pos ⟨a, by simp, h⟩]; decide
  | cons a S ha hS ih =>
    rw [Finset.fold_cons, ih]
    by_cases hx : ∃ x ∈ S, p x = true
    · rw [if_pos hx, if_pos (by obtain ⟨x, h1, h2⟩ := hx; exact ⟨x, by simp [h1], h2⟩)]
      cases p a <;> decide
    · rw [if_neg hx]
      cases h : p a
      · rw [if_neg (by
          rintro ⟨x, h1, h2⟩
          rcases Finset.mem_cons.mp h1 with rfl | h3
          · rw [h] at h2; exact absurd h2 (by decide)
          · exact hx ⟨x, h3, h2⟩)]
        decide
      · rw [if_pos ⟨a, by simp, h⟩]; decide

/-! ## The reference's exponent -/

/-- The reference's exponent of the quotient `f`: `floor (log₂ f) + 1`, at most 120; 0 below the least normal number and at infinity. -/
def refExp (f : EReal) : EReal :=
  if f < (((2 : ℝ) ^ (-126 : ℤ) : ℝ) : EReal) ∨ f = ⊤ then 0
  else min (Ideal.liftRound Int.floor (Ideal.div (Ideal.log f) (Ideal.log ((2 : ℝ) : EReal))) + 1) ((120 : ℝ) : EReal)

/-- The quotient of a real magnitude by 448. -/
theorem div_448 (r : ℝ) : Ideal.div (r : EReal) ((448 : ℝ) : EReal) = ((r / 448 : ℝ) : EReal) := by
  rw [Ideal.div, if_neg (by exact_mod_cast (by norm_num : (448 : ℝ) ≠ 0)), ← EReal.coe_inv, ← EReal.coe_mul, div_eq_mul_inv]

/-- The reference's exponent, by the field `k` of a magnitude that reaches the thresholds up to `k`. -/
theorem ref_value (a : EReal) (ha : 0 ≤ a) (k : ℕ) (hk : k ≤ 255) (hs : step k ≤ a) (hn : k = 255 ∨ a < step (k + 1)) :
    refExp (Ideal.div a ((448 : ℝ) : EReal)) = if 10 ≤ k ∧ a < ⊤ then (((k : ℝ) - 135 : ℝ) : EReal) else 0 := by
  induction a with
  | bot => exact absurd ha (by simp)
  | top =>
    have : Ideal.div ⊤ ((448 : ℝ) : EReal) = ⊤ := by
      rw [Ideal.div, if_neg (by exact_mod_cast (by norm_num : (448 : ℝ) ≠ 0)), ← EReal.coe_inv]
      exact EReal.top_mul_coe_of_pos (by norm_num)
    rw [this, refExp, if_pos (.inr rfl), if_neg (by simp)]
  | coe r =>
    rw [div_448, refExp]
    have hr : 0 ≤ r := EReal.coe_nonneg.mp ha
    by_cases h10 : 10 ≤ k
    · rw [step_of_two_le k (by omega) hk, EReal.coe_le_coe_iff] at hs
      have hlo : (2 : ℝ) ^ ((k : ℤ) - 136) ≤ r / 448 := by
        rw [le_div_iff₀ (by norm_num : (0 : ℝ) < 448)]; linarith
      have hmin : (2 : ℝ) ^ (-126 : ℤ) ≤ (2 : ℝ) ^ ((k : ℤ) - 136) := zpow_le_zpow_right₀ (by norm_num) (by omega)
      have hpos : 0 < r / 448 := lt_of_lt_of_le (by positivity) hlo
      have hlog2 : Real.log 2 ≠ 0 := (Real.log_pos (by norm_num)).ne'
      have hL : Ideal.log ((2 : ℝ) : EReal) = ((Real.log 2 : ℝ) : EReal) := if_neg (by norm_num)
      have hF : Ideal.log ((r / 448 : ℝ) : EReal) = ((Real.log (r / 448) : ℝ) : EReal) := if_neg (not_le.mpr hpos)
      have hD : Ideal.div ((Real.log (r / 448) : ℝ) : EReal) ((Real.log 2 : ℝ) : EReal) = ((Real.log (r / 448) / Real.log 2 : ℝ) : EReal) := by
        rw [Ideal.div, if_neg (by exact_mod_cast hlog2), ← EReal.coe_inv, ← EReal.coe_mul, div_eq_mul_inv (Real.log _)]
      rw [if_neg (by
        rintro (h | h)
        · exact absurd (EReal.coe_lt_coe_iff.mp h) (not_lt.mpr (hmin.trans hlo))
        · exact EReal.coe_ne_top _ h), if_pos ⟨h10, EReal.coe_lt_top r⟩, hL, hF, hD, Ideal.liftRound_coe,
        ← EReal.coe_one, ← EReal.coe_add, ← EReal.coe_strictMono.monotone.map_min]
      congr 1
      have hfl : ((k : ℤ) - 136) ≤ ⌊Real.log (r / 448) / Real.log 2⌋ := by
        rw [Int.le_floor, le_div_iff₀ (Real.log_pos (by norm_num)), ← Real.log_zpow]
        exact Real.log_le_log (by positivity) hlo
      rcases hn with rfl | hn
      · rw [min_eq_right]
        · norm_num
        · have : (119 : ℝ) ≤ ⌊Real.log (r / 448) / Real.log 2⌋ := by exact_mod_cast hfl
          linarith
      · by_cases h255 : k = 255
        · subst h255
          rw [min_eq_right]
          · norm_num
          · have : (119 : ℝ) ≤ ⌊Real.log (r / 448) / Real.log 2⌋ := by exact_mod_cast hfl
            linarith
        rw [step_of_two_le (k + 1) (by omega) (by omega), EReal.coe_lt_coe_iff] at hn
        have hhi : r / 448 < (2 : ℝ) ^ ((k : ℤ) - 135) := by
          rw [div_lt_iff₀ (by norm_num : (0 : ℝ) < 448), mul_comm]
          rwa [show (((k + 1 : ℕ) : ℤ) - 136) = (k : ℤ) - 135 by push_cast; ring] at hn
        have hfl' : ⌊Real.log (r / 448) / Real.log 2⌋ < (k : ℤ) - 135 := by
          rw [Int.floor_lt, div_lt_iff₀ (Real.log_pos (by norm_num)), ← Real.log_zpow]
          exact Real.log_lt_log hpos hhi
        have hfe : ⌊Real.log (r / 448) / Real.log 2⌋ = (k : ℤ) - 136 := by omega
        rw [hfe, min_eq_left]
        · push_cast; ring
        · push_cast
          have : (k : ℝ) ≤ 255 := by exact_mod_cast hk
          linarith
    · have hno : ¬(10 ≤ k ∧ (r : EReal) < ⊤) := fun h => h10 h.1
      rw [if_neg hno, if_pos]
      left
      have hlt : (r : EReal) < step 10 := by
        rcases hn with rfl | hn
        · omega
        · exact lt_of_lt_of_le hn (step_mono (by omega) (by norm_num))
      rw [step_of_two_le 10 (by norm_num) (by norm_num), EReal.coe_lt_coe_iff] at hlt
      rw [EReal.coe_lt_coe_iff, div_lt_iff₀ (by norm_num : (0 : ℝ) < 448)]
      norm_num at hlt ⊢
      linarith

/-! ## The two agree -/

/-- The kernel's scale is two to the reference's exponent. -/
theorem scale_eq (a : EReal) (ha : 0 ≤ a) : kScale a = Ideal.exp2 (refExp (Ideal.div a ((448 : ℝ) : EReal))) := by
  obtain ⟨k, hk, hs, hn, hc⟩ := reached_eq a ha
  rw [(kernel_values a k hk hc).1, ref_value a ha k hk hs hn]
  by_cases hv : 10 ≤ k ∧ a < ⊤
  · rw [if_pos hv, if_pos hv, Ideal.exp2_coe]
    congr 1
    show _ = (2 : ℝ) ^ ((k : ℝ) - 135 : ℝ)
    rw [← Real.rpow_intCast]; push_cast; rfl
  · rw [if_neg hv, if_neg hv, ← EReal.coe_zero, Ideal.exp2_coe]
    show _ = (((2 : ℝ) ^ (0 : ℝ) : ℝ) : EReal)
    rw [Real.rpow_zero]; rfl

/-- The kernel's inverse scale is two to the reference's exponent negated. -/
theorem inv_eq (a : EReal) (ha : 0 ≤ a) : kInv a = Ideal.exp2 (0 - refExp (Ideal.div a ((448 : ℝ) : EReal))) := by
  obtain ⟨k, hk, hs, hn, hc⟩ := reached_eq a ha
  rw [(kernel_values a k hk hc).2, ref_value a ha k hk hs hn]
  by_cases hv : 10 ≤ k ∧ a < ⊤
  · rw [if_pos hv, if_pos hv, ← EReal.coe_zero, ← EReal.coe_sub, Ideal.exp2_coe]
    congr 1
    show _ = (2 : ℝ) ^ (0 - ((k : ℝ) - 135) : ℝ)
    rw [← Real.rpow_intCast]; push_cast; congr 1; ring
  · rw [if_neg hv, if_neg hv, sub_zero, ← EReal.coe_zero, Ideal.exp2_coe]
    show _ = (((2 : ℝ) ^ (0 : ℝ) : ℝ) : EReal)
    rw [Real.rpow_zero]; rfl

end Cert.Quant

end
-- ==== Proof.Spec.lean ====
/-
  What both programs compute, element by element, over the extended reals.

  A row of activations `row : Fin 2048 → EReal` and the outlier positions `idx : Fin 128 → BitVec 32` give the row's codes, its
  16 scales and the row that meets the weights; a row of weights gives the weights that it meets. Every definition is the
  problem's: nothing here names a tile, a grid or a word.
-/
module

public import proofs.«01_k».proof.Proof.Exponent

@[expose] public section

noncomputable section

namespace Cert.Quant

open Idealize.ShloMosaic Classical

/-- Column `128 b + l`: lane `l` of block `b`. -/
def lane (b : Fin 16) (l : Fin 128) : Fin 2048 := ⟨128 * b.val + l.val, by omega⟩

/-- The block that a column lies in. -/
def blk (col : Fin 2048) : Fin 16 := ⟨col.val / 128, by omega⟩

/-- The lane of a column within its block. -/
def lan (col : Fin 2048) : Fin 128 := ⟨col.val % 128, by omega⟩

/-- A column is its own lane of its own block. -/
theorem lane_blk (col : Fin 2048) : lane (blk col) (lan col) = col := Fin.ext (Nat.div_add_mod _ _)

/-- The block of lane `l` of block `b` is `b`. -/
theorem blk_lane (b : Fin 16) (l : Fin 128) : blk (lane b l) = b := Fin.ext (by show (128 * b.val + l.val) / 128 = b.val; omega)

/-- The column is an outlier's. -/
def isOut (idx : Fin 128 → BitVec 32) (col : Fin 2048) : Prop := ∃ t, idx t = BitVec.ofNat 32 col.val

/-- The activation that is quantised: 0 at an outlier's column. -/
def xin (idx : Fin 128 → BitVec 32) (row : Fin 2048 → EReal) (col : Fin 2048) : EReal := if isOut idx col then 0 else row col

/-- A block's largest magnitude. -/
def amax (idx : Fin 128 → BitVec 32) (row : Fin 2048 → EReal) (b : Fin 16) : EReal :=
  (Finset.univ : Finset (Fin 128)).fold max ⊥ fun l => max (xin idx row (lane b l)) (-xin idx row (lane b l))

/-- The exponent of a block's scale. -/
def expo (idx : Fin 128 → BitVec 32) (row : Fin 2048 → EReal) (b : Fin 16) : EReal :=
  refExp (Ideal.div (amax idx row b) ((448 : ℝ) : EReal))

/-- A block's scale. -/
def scale (idx : Fin 128 → BitVec 32) (row : Fin 2048 → EReal) (b : Fin 16) : EReal := Ideal.exp2 (expo idx row b)

/-- The code of an activation: divided by its block's scale and clipped to ±448. -/
def code (idx : Fin 128 → BitVec 32) (row : Fin 2048 → EReal) (col : Fin 2048) : EReal :=
  min ((448 : ℝ) : EReal) (max ((-448 : ℝ) : EReal) (xin idx row col * Ideal.exp2 (0 - expo idx row (blk col))))

/-- The activation that meets the weights: the original one at an outlier's column, else the code times the scale. -/
def comb (idx : Fin 128 → BitVec 32) (row : Fin 2048 → EReal) (col : Fin 2048) : EReal :=
  if isOut idx col then row col else code idx row col * scale idx row (blk col)

/-- The weight it meets: at an outlier's column the sum of the full-precision columns that stand there, else the code times
    its block's scale. -/
def wcomb (idx : Fin 128 → BitVec 32) (full : Fin 128 → EReal) (wcode wscale : EReal) (col : Fin 2048) : EReal :=
  if isOut idx col then ∑ t, full t * (if idx t = BitVec.ofNat 32 col.val then 1 else 0) else wcode * wscale

/-- One element of the product. -/
def prod (idx : Fin 128 → BitVec 32) (row : Fin 2048 → EReal) (full : Fin 128 → EReal) (wcode : Fin 2048 → EReal)
    (wscale : Fin 16 → EReal) : EReal :=
  ∑ col, comb idx row col * wcomb idx full (wcode col) (wscale (blk col)) col

/-- A block's largest magnitude is not negative. -/
theorem amax_nonneg (idx : Fin 128 → BitVec 32) (row : Fin 2048 → EReal) (b : Fin 16) : 0 ≤ amax idx row b := by
  refine (Finset.le_fold_max _).mpr (.inr ⟨0, Finset.mem_univ _, ?_⟩)
  rcases le_total 0 (xin idx row (lane b 0)) with h | h
  · exact le_max_of_le_left h
  · exact le_max_of_le_right (by rw [EReal.le_neg]; simpa using h)

/-- The code at an outlier's column is 0. -/
theorem code_out (idx : Fin 128 → BitVec 32) (row : Fin 2048 → EReal) (col : Fin 2048) (h : isOut idx col) : code idx row col = 0 := by
  rw [code, xin, if_pos h, zero_mul, max_eq_right (EReal.coe_nonpos.mpr (by norm_num)), min_eq_right (EReal.coe_nonneg.mpr (by norm_num))]

/-- What the kernel adds up for the activation that meets the weights: one of the two addends is 0. -/
theorem comb_eq_add (idx : Fin 128 → BitVec 32) (row : Fin 2048 → EReal) (col : Fin 2048) :
    code idx row col * scale idx row (blk col) + (if isOut idx col then row col else 0) = comb idx row col := by
  rw [comb]
  by_cases h : isOut idx col
  · rw [if_pos h, if_pos h, code_out idx row col h, zero_mul, zero_add]
  · rw [if_neg h, if_neg h, add_zero]

/-! ## The literals of the programs -/

/-- 448 as an f32 literal. -/
theorem lit_448 : Ideal.ofBits .f32 0x43E00000#32 = ((448 : ℝ) : EReal) := by
  simp [Ideal.ofBits, Ideal.ieee, -EReal.coe_mul]; norm_num

/-- -448 as an f32 literal. -/
theorem lit_neg448 : Ideal.ofBits .f32 0xC3E00000#32 = ((-448 : ℝ) : EReal) := by
  simp [Ideal.ofBits, Ideal.ieee, -EReal.coe_mul]; norm_num

/-- 120 as an f32 literal. -/
theorem lit_120 : Ideal.ofBits .f32 0x42F00000#32 = ((120 : ℝ) : EReal) := by
  simp [Ideal.ofBits, Ideal.ieee, -EReal.coe_mul]; norm_num

/-- 2 as an f32 literal. -/
theorem lit_2 : Ideal.ofBits .f32 0x40000000#32 = ((2 : ℝ) : EReal) := by
  simp [Ideal.ofBits, Ideal.ieee, -EReal.coe_mul]; norm_num

/-- The least normal f32 as a literal. -/
theorem lit_tiny : Ideal.ofBits .f32 0x00800000#32 = (((2 : ℝ) ^ (-126 : ℤ) : ℝ) : EReal) := by
  simp [Ideal.ofBits, Ideal.ieee, -EReal.coe_mul]; norm_num

/-- Infinity as an f32 literal. -/
theorem lit_inf : Ideal.ofBits .f32 0x7F800000#32 = ⊤ := by simp [Ideal.ofBits, Ideal.ieee]

/-- Minus infinity as an f32 literal. -/
theorem lit_neginf : Ideal.ofBits .f32 0xFF800000#32 = ⊥ := by simp [Ideal.ofBits, Ideal.ieee]

/-- Infinity as a bf16 literal. -/
theorem lit_inf16 : Ideal.ofBits .bf16 0x7F80#16 = ⊤ := by simp [Ideal.ofBits, Ideal.ieee]

/-- Minus infinity as a bf16 literal. -/
theorem lit_neginf16 : Ideal.ofBits .bf16 0xFF80#16 = ⊥ := by simp [Ideal.ofBits, Ideal.ieee]

/-! ## Flags as numbers -/

/-- The word of an equality, as a number. -/
theorem sitofp_eq (a b : BitVec 32) :
    FloatOps.sitofp (F := Ideal) .f32 (BitVec.setWidth 32 (IntOp.cmpi .eq a b)) = if a = b then (1 : EReal) else 0 := by
  show (((BitVec.setWidth 32 (BitVec.ofBool (a == b))).toInt : ℝ) : EReal) = _
  by_cases h : a = b
  · rw [if_pos h, beq_iff_eq.mpr h, show (BitVec.setWidth 32 (BitVec.ofBool true)).toInt = 1 by decide]; norm_num
  · rw [if_neg h, beq_eq_false_iff_ne.mpr h]; norm_num

end Cert.Quant

end
-- ==== Proof.Pieces.lean ====
/-
  What one grid point of the kernel stores, as lists of pieces given by the 16 blocks.

  The kernel treats the blocks one after the other in straight-line code. Here one function of a block's mask and activations
  stands for each of the stored values (`blkCodes`, `blkScale`, `blkComb`, `wBlk`), and each list of stores is the 16 (or 32)
  applications of it, last store first.
-/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Value

open Cert.KernelIdeal Cert.KernelIdeal.Gen Idealize.ShloMosaic Idealize.ShloMosaic.TcCoe Idealize.SL.Sem

variable {F : FTy → Type} [FloatOps F]

/-! ## The functions of a block -/

/-- A block's codes, from the mask `k` of its columns and its activations `x`. -/
def blkCodes (k : Vec F S1x128 .i32) (x : Vec F S512x128 .bf16) : Vec F S512x128 .fp8e4m3 :=
  k0_pay65 (k0_pay60 k x) (k0_pay61 k x) (k0_pay62 k x)

/-- A block's scale, one per row, repeated along the lanes. -/
def blkScale (k : Vec F S1x128 .i32) (x : Vec F S512x128 .bf16) : FVec F S512x128 .bf16 :=
  k0_pay64 (k0_pay61 k x) (k0_pay62 k x)

/-- A block's activations that meet the weights. -/
def blkComb (k : Vec F S1x128 .i32) (x : Vec F S512x128 .bf16) : Vec F S512x128 .bf16 :=
  k0_pay66 k (k0_pay59 x) (k0_pay60 k x) (k0_pay61 k x) (k0_pay62 k x)

/-- The 16 blocks, last first: the order of a list of stores. -/
def downFrom15 : List (Fin 16) := [15, 14, 13, 12, 11, 10, 9, 8, 7, 6, 5, 4, 3, 2, 1, 0]

/-- The 16 blocks in order. -/
def upTo15 : List (Fin 16) := [0, 1, 2, 3, 4, 5, 6, 7, 8, 9, 10, 11, 12, 13, 14, 15]

/-- The bf16 word of a block's number. -/
def laneWord : Fin 16 → BitVec 16 := ![0x0000#16, 0x3F80#16, 0x4000#16, 0x4040#16, 0x4080#16, 0x40A0#16, 0x40C0#16, 0x40E0#16,
  0x4100#16, 0x4110#16, 0x4120#16, 0x4130#16, 0x4140#16, 0x4150#16, 0x4160#16, 0x4170#16]

/-- Puts `s` into the lane numbered `w` of `prev`. -/
def pick (w : BitVec 16) (s prev : FVec F S512x128 .bf16) : FVec F S512x128 .bf16 :=
  select (cmpf .oeq (k0_pay57 (F := F)) (broadcast S512x128 (Scalar.ofBits .bf16 w))) s prev

/-- The blocks' scales side by side. -/
def scaleAll (s : Fin 16 → FVec F S512x128 .bf16) : Vec F S512x16 .f32 :=
  extf .f32 (extractStridedSlice S512x16 ![0, 0] (upTo15.foldl (fun prev b => pick (laneWord b) (s b) prev) k0_pay58)
    slices_S512x128_o0_0_S512x16) bitsLt_bf16_f32

/-! ## Where a block lies -/

/-- Block `b` lies within an array of 512 × 2048. -/
theorem inbX (b : Fin 16) : ∀ a, (![0, 128 * b.val] : Fin 2 → Nat) a + S512x128.size a ≤ S512x2048.size a := by
  intro a; match a with
  | 0 => exact Nat.le_refl _
  | 1 => show 128 * b.val + 128 ≤ 2048; omega

/-- Block `b` lies within the mask of 8 × 2048. -/
theorem inbK (b : Fin 16) : ∀ a, (![0, 128 * b.val] : Fin 2 → Nat) a + S1x128.size a ≤ S8x2048.size a := by
  intro a; match a with
  | 0 => show 0 + 1 ≤ 8; omega
  | 1 => show 128 * b.val + 128 ≤ 2048; omega

/-- Block `b` of an array of 512 × 2048. -/
abbrev xRect (b : Fin 16) : Rect S512x2048 := Rect.unit ![0, 128 * b.val] S512x128.size (inbX b)

/-- Block `b` of the mask's first row. -/
abbrev kRect (b : Fin 16) : Rect S8x2048 := Rect.unit ![0, 128 * b.val] S1x128.size (inbK b)

/-! ## The lists of stores of a grid point: at the first point (A) and at the others (B) -/

/-- The stores of the codes at the first point. -/
theorem codes_A (c : Dev nD) (i : grid0.Coords) (arg1 : Memref sig .tc .vmem S128x1 .i32) (harg1 : arg1.IsWhole) (arg2 : Memref sig .tc .smem S24x16 .f32) (harg2 : arg2.IsWhole) (arg3 : Memref sig .tc .vmem S512x2048 .bf16) (harg3 : arg3.IsWhole) (arg4 : Memref sig .tc .vmem S3072x128 .bf16) (harg4 : arg4.IsWhole) (arg5 : Memref sig .tc .vmem S3072x2048 .fp8e4m3) (harg5 : arg5.IsWhole) (arg6 : Memref sig .tc .vmem S512x3072 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S8x2048 .i32) (harg9 : arg9.IsWhole) (arg10 : Memref sig .tc .vmem S3072x2048 .bf16) (harg10 : arg10.IsWhole) (arg11 : Memref sig .tc .vmem S512x2048 .bf16) (harg11 : arg11.IsWhole) (hc0 : cond0_0 i)
    (x0 : Vec F S128x1 .i32) (x1 : Vec F S24x16 .f32) (x2 : Vec F S512x2048 .bf16) (x3 : Vec F S3072x128 .bf16) (x4 : Vec F S3072x2048 .fp8e4m3) :
    (kernelRun0_A c i arg1 harg1 arg2 harg2 arg3 harg3 arg4 harg4 arg5 harg5 arg6 harg6 arg7 harg7 arg8 harg8 arg9 harg9 arg10 harg10 arg11 harg11 hc0 x0 x1 x2 x3 x4).2.1
      = downFrom15.map (fun b => ⟨xRect b, blkCodes (View.readAt (Elt F) arg9.view (kRect b).toLoadRect (arg9.view.writes (Elt F) arg9.view.junk (kernelRun0_A.sl.HS0_1 c arg1 harg1 x0))) (View.readAt (Elt F) arg3.view (xRect b).toLoadRect (harg3.unread x2))⟩) := by
  unfold kernelRun0_A
  dsimp only
  rfl

/-- The store of the scales at the first point. -/
theorem scales_A (c : Dev nD) (i : grid0.Coords) (arg1 : Memref sig .tc .vmem S128x1 .i32) (harg1 : arg1.IsWhole) (arg2 : Memref sig .tc .smem S24x16 .f32) (harg2 : arg2.IsWhole) (arg3 : Memref sig .tc .vmem S512x2048 .bf16) (harg3 : arg3.IsWhole) (arg4 : Memref sig .tc .vmem S3072x128 .bf16) (harg4 : arg4.IsWhole) (arg5 : Memref sig .tc .vmem S3072x2048 .fp8e4m3) (harg5 : arg5.IsWhole) (arg6 : Memref sig .tc .vmem S512x3072 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S8x2048 .i32) (harg9 : arg9.IsWhole) (arg10 : Memref sig .tc .vmem S3072x2048 .bf16) (harg10 : arg10.IsWhole) (arg11 : Memref sig .tc .vmem S512x2048 .bf16) (harg11 : arg11.IsWhole) (hc0 : cond0_0 i)
    (x0 : Vec F S128x1 .i32) (x1 : Vec F S24x16 .f32) (x2 : Vec F S512x2048 .bf16) (x3 : Vec F S3072x128 .bf16) (x4 : Vec F S3072x2048 .fp8e4m3) :
    (kernelRun0_A c i arg1 harg1 arg2 harg2 arg3 harg3 arg4 harg4 arg5 harg5 arg6 harg6 arg7 harg7 arg8 harg8 arg9 harg9 arg10 harg10 arg11 harg11 hc0 x0 x1 x2 x3 x4).2.2.1
      = [⟨Rect.unit ![0, 0] ![512, 16] inb_S512x16_S512x16_0_0, scaleAll (fun b => blkScale (View.readAt (Elt F) arg9.view (kRect b).toLoadRect (arg9.view.writes (Elt F) arg9.view.junk (kernelRun0_A.sl.HS0_1 c arg1 harg1 x0))) (View.readAt (Elt F) arg3.view (xRect b).toLoadRect (harg3.unread x2)))⟩] := by
  unfold kernelRun0_A
  dsimp only
  rfl

/-- The stores of the activations that meet the weights, at the first point. -/
theorem comb_A (c : Dev nD) (i : grid0.Coords) (arg1 : Memref sig .tc .vmem S128x1 .i32) (harg1 : arg1.IsWhole) (arg2 : Memref sig .tc .smem S24x16 .f32) (harg2 : arg2.IsWhole) (arg3 : Memref sig .tc .vmem S512x2048 .bf16) (harg3 : arg3.IsWhole) (arg4 : Memref sig .tc .vmem S3072x128 .bf16) (harg4 : arg4.IsWhole) (arg5 : Memref sig .tc .vmem S3072x2048 .fp8e4m3) (harg5 : arg5.IsWhole) (arg6 : Memref sig .tc .vmem S512x3072 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S8x2048 .i32) (harg9 : arg9.IsWhole) (arg10 : Memref sig .tc .vmem S3072x2048 .bf16) (harg10 : arg10.IsWhole) (arg11 : Memref sig .tc .vmem S512x2048 .bf16) (harg11 : arg11.IsWhole) (hc0 : cond0_0 i)
    (x0 : Vec F S128x1 .i32) (x1 : Vec F S24x16 .f32) (x2 : Vec F S512x2048 .bf16) (x3 : Vec F S3072x128 .bf16) (x4 : Vec F S3072x2048 .fp8e4m3) :
    kernelRun0_A.sl.HS2_16 c arg1 harg1 arg3 harg3 arg9 x0 x2
      = downFrom15.map (fun b => ⟨xRect b, blkComb (View.readAt (Elt F) arg9.view (kRect b).toLoadRect (arg9.view.writes (Elt F) arg9.view.junk (kernelRun0_A.sl.HS0_1 c arg1 harg1 x0))) (View.readAt (Elt F) arg3.view (xRect b).toLoadRect (harg3.unread x2))⟩) := rfl

/-- The stores of the codes at a later point. -/
theorem codes_B (c : Dev nD) (i : grid0.Coords) (arg1 : Memref sig .tc .vmem S128x1 .i32) (harg1 : arg1.IsWhole) (arg2 : Memref sig .tc .smem S24x16 .f32) (harg2 : arg2.IsWhole) (arg3 : Memref sig .tc .vmem S512x2048 .bf16) (harg3 : arg3.IsWhole) (arg4 : Memref sig .tc .vmem S3072x128 .bf16) (harg4 : arg4.IsWhole) (arg5 : Memref sig .tc .vmem S3072x2048 .fp8e4m3) (harg5 : arg5.IsWhole) (arg6 : Memref sig .tc .vmem S512x3072 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S8x2048 .i32) (harg9 : arg9.IsWhole) (arg10 : Memref sig .tc .vmem S3072x2048 .bf16) (harg10 : arg10.IsWhole) (arg11 : Memref sig .tc .vmem S512x2048 .bf16) (harg11 : arg11.IsWhole) (hc0 : ¬cond0_0 i)
    (x0 : Vec F S128x1 .i32) (x1 : Vec F S24x16 .f32) (x2 : Vec F S512x2048 .bf16) (x3 : Vec F S3072x128 .bf16) (x4 : Vec F S3072x2048 .fp8e4m3) (xs0 : Vec F S8x2048 .i32) (xs1 : Vec F S3072x2048 .bf16) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1
      = downFrom15.map (fun b => ⟨xRect b, blkCodes (View.readAt (Elt F) arg9.view (kRect b).toLoadRect (harg9.unread xs0)) (View.readAt (Elt F) arg3.view (xRect b).toLoadRect (harg3.unread x2))⟩) := by
  unfold kernelRun0_B
  dsimp only
  rfl

/-- The store of the scales at a later point. -/
theorem scales_B (c : Dev nD) (i : grid0.Coords) (arg1 : Memref sig .tc .vmem S128x1 .i32) (harg1 : arg1.IsWhole) (arg2 : Memref sig .tc .smem S24x16 .f32) (harg2 : arg2.IsWhole) (arg3 : Memref sig .tc .vmem S512x2048 .bf16) (harg3 : arg3.IsWhole) (arg4 : Memref sig .tc .vmem S3072x128 .bf16) (harg4 : arg4.IsWhole) (arg5 : Memref sig .tc .vmem S3072x2048 .fp8e4m3) (harg5 : arg5.IsWhole) (arg6 : Memref sig .tc .vmem S512x3072 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S8x2048 .i32) (harg9 : arg9.IsWhole) (arg10 : Memref sig .tc .vmem S3072x2048 .bf16) (harg10 : arg10.IsWhole) (arg11 : Memref sig .tc .vmem S512x2048 .bf16) (harg11 : arg11.IsWhole) (hc0 : ¬cond0_0 i)
    (x0 : Vec F S128x1 .i32) (x1 : Vec F S24x16 .f32) (x2 : Vec F S512x2048 .bf16) (x3 : Vec F S3072x128 .bf16) (x4 : Vec F S3072x2048 .fp8e4m3) (xs0 : Vec F S8x2048 .i32) (xs1 : Vec F S3072x2048 .bf16) :
    (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.2.1
      = [⟨Rect.unit ![0, 0] ![512, 16] inb_S512x16_S512x16_0_0, scaleAll (fun b => blkScale (View.readAt (Elt F) arg9.view (kRect b).toLoadRect (harg9.unread xs0)) (View.readAt (Elt F) arg3.view (xRect b).toLoadRect (harg3.unread x2)))⟩] := by
  unfold kernelRun0_B
  dsimp only
  rfl

/-- The stores of the activations that meet the weights, at a later point. -/
theorem comb_B (c : Dev nD) (i : grid0.Coords) (arg1 : Memref sig .tc .vmem S128x1 .i32) (harg1 : arg1.IsWhole) (arg2 : Memref sig .tc .smem S24x16 .f32) (harg2 : arg2.IsWhole) (arg3 : Memref sig .tc .vmem S512x2048 .bf16) (harg3 : arg3.IsWhole) (arg4 : Memref sig .tc .vmem S3072x128 .bf16) (harg4 : arg4.IsWhole) (arg5 : Memref sig .tc .vmem S3072x2048 .fp8e4m3) (harg5 : arg5.IsWhole) (arg6 : Memref sig .tc .vmem S512x3072 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S8x2048 .i32) (harg9 : arg9.IsWhole) (arg10 : Memref sig .tc .vmem S3072x2048 .bf16) (harg10 : arg10.IsWhole) (arg11 : Memref sig .tc .vmem S512x2048 .bf16) (harg11 : arg11.IsWhole) (hc0 : ¬cond0_0 i)
    (x0 : Vec F S128x1 .i32) (x1 : Vec F S24x16 .f32) (x2 : Vec F S512x2048 .bf16) (x3 : Vec F S3072x128 .bf16) (x4 : Vec F S3072x2048 .fp8e4m3) (xs0 : Vec F S8x2048 .i32) (xs1 : Vec F S3072x2048 .bf16) :
    kernelRun0_B.sl.HS2_16 c arg3 harg3 arg9 harg9 x2 xs0
      = downFrom15.map (fun b => ⟨xRect b, blkComb (View.readAt (Elt F) arg9.view (kRect b).toLoadRect (harg9.unread xs0)) (View.readAt (Elt F) arg3.view (xRect b).toLoadRect (harg3.unread x2))⟩) := rfl

/-! ## The stores of one trip of the loop that prepares the weights -/

/-- Where a trip reads and writes the weights of block `b`, by the trip and the half of its rows. -/
def wOff : Fin 16 → Fin k0_t1_loop.trips → BitVec 32 → Fin 2 → ℕ := ![k0_off3, k0_off5, k0_off7, k0_off9, k0_off11, k0_off13, k0_off15, k0_off17, k0_off19, k0_off21, k0_off23, k0_off25, k0_off27, k0_off29, k0_off31, k0_off33]

/-- Where a trip reads the scale of the weights of block `b`. -/
def sOff : Fin 16 → Fin k0_t1_loop.trips → BitVec 32 → Fin 2 → ℕ := ![k0_off2, k0_off4, k0_off6, k0_off8, k0_off10, k0_off12, k0_off14, k0_off16, k0_off18, k0_off20, k0_off22, k0_off24, k0_off26, k0_off28, k0_off30, k0_off32]

/-- The offsets of the weights in closed form. -/
theorem wOff_eq : ∀ (b : Fin 16) (k : Fin k0_t1_loop.trips) (r : Fin 2),
    wOff b k (BitVec.ofNat 32 (128 * r.val)) = ![256 * k.val + 128 * r.val, 128 * b.val] := by decide +kernel

/-- The offsets of the weights' scales in closed form. -/
theorem sOff_eq : ∀ (b : Fin 16) (k : Fin k0_t1_loop.trips) (r : Fin 2),
    sOff b k (BitVec.ofNat 32 r.val) = ![2 * k.val + r.val, b.val] := by decide +kernel

/-- A trip's weights lie within the array. -/
theorem wOff_inb (b : Fin 16) (k : Fin k0_t1_loop.trips) (r : Fin 2) (a : Fin 2) :
    wOff b k (BitVec.ofNat 32 (128 * r.val)) a + S128x128.size a ≤ S3072x2048.size a := by
  have hk : k.val < 12 := Nat.lt_of_lt_of_le k.isLt k0_t1_abs.2.1
  rw [wOff_eq]
  match a with
  | 0 => show 256 * k.val + 128 * r.val + 128 ≤ 3072; omega
  | 1 => show 128 * b.val + 128 ≤ 2048; omega

/-- A trip's scales lie within the array. -/
theorem sOff_inb (b : Fin 16) (k : Fin k0_t1_loop.trips) (r : Fin 2) (a : Fin 2) :
    sOff b k (BitVec.ofNat 32 r.val) a + S1x1.size a ≤ S24x16.size a := by
  have hk : k.val < 12 := Nat.lt_of_lt_of_le k.isLt k0_t1_abs.2.1
  rw [sOff_eq]
  match a with
  | 0 => show 2 * k.val + r.val + 1 ≤ 24; omega
  | 1 => show b.val + 1 ≤ 16; omega

/-- A half's block lies within a trip's 256 rows. -/
theorem fOff_slices : ∀ (b : Fin 16) (r : Fin 2), S256x2048.Slices ![128 * r.val, 128 * b.val] S128x128 := by decide +kernel

/-- The weights of block `b` in half `r` of a trip's rows: the codes `w` times their scale `s` where the mask is not 0, the
    full-precision weights of the trip elsewhere. -/
def wBlk (b : Fin 16) (r : Fin 2) (full : FVec F S256x2048 .bf16) (keep : Vec F S1x128 .i32) (s : Elt F .f32)
    (w : Vec F S128x128 .fp8e4m3) : Vec F S128x128 .bf16 :=
  shapeCast S128x128
    (select (broadcastTo S128x128 (shapeCast S1x128 (cmpi .ne keep (broadcast S1x128 0#32)) shapeCasts_S1x128_S1x128)
        broadcasts_S1x128_S128x128)
      (mulf (extf .bf16 w bitsLt_fp8e4m3_bf16) (broadcast S128x128 (Scalar.truncf .bf16 bitsLt_bf16_f32 s)))
      (extractStridedSlice S128x128 ![128 * r.val, 128 * b.val] full (fOff_slices b r)))
    shapeCasts_S128x128_S128x128

/-- Block `b` of half `r` of a trip's rows of the weights. -/
abbrev wRect (b : Fin 16) (k : Fin k0_t1_loop.trips) (r : Fin 2) : Rect S3072x2048 :=
  Rect.unit (wOff b k (BitVec.ofNat 32 (128 * r.val))) S128x128.size (wOff_inb b k r)

/-- The scale of that block. -/
abbrev sRect (b : Fin 16) (k : Fin k0_t1_loop.trips) (r : Fin 2) : Rect S24x16 :=
  Rect.unit (sOff b k (BitVec.ofNat 32 r.val)) S1x1.size (sOff_inb b k r)

/-- A trip's rows of the full-precision weights. -/
abbrev oRect (i : grid0.Coords) (k : Fin k0_t1_loop.trips) (h : k0_cond1 i = 1#1) : Rect S3072x128 :=
  Rect.unit (k0_off1 k) S256x128.size (k0_off1_inb i k h)

/-- One element is one element. -/
theorem numel11 : 0 < S1x1.numel := by decide

/-- The 32 blocks of a trip, last first. -/
def bothDown : List (Fin 16 × Fin 2) :=
  [(15, 1), (15, 0), (14, 1), (14, 0), (13, 1), (13, 0), (12, 1), (12, 0), (11, 1), (11, 0), (10, 1), (10, 0), (9, 1), (9, 0),
    (8, 1), (8, 0), (7, 1), (7, 0), (6, 1), (6, 0), (5, 1), (5, 0), (4, 1), (4, 0), (3, 1), (3, 0), (2, 1), (2, 0), (1, 1), (1, 0),
    (0, 1), (0, 0)]

/-- The stores of a trip. -/
theorem trip_eq (𝒱 : Variants) (c : Dev nD) (bd : Option 𝒱.V) (i : grid0.Coords) (arg1 : Memref sig .tc .vmem S128x1 .i32) (harg1 : arg1.IsWhole) (arg2 : Memref sig .tc .smem S24x16 .f32) (harg2 : arg2.IsWhole) (arg3 : Memref sig .tc .vmem S512x2048 .bf16) (harg3 : arg3.IsWhole) (arg4 : Memref sig .tc .vmem S3072x128 .bf16) (harg4 : arg4.IsWhole) (arg5 : Memref sig .tc .vmem S3072x2048 .fp8e4m3) (harg5 : arg5.IsWhole) (arg6 : Memref sig .tc .vmem S512x3072 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S8x2048 .i32) (harg9 : arg9.IsWhole) (arg10 : Memref sig .tc .vmem S3072x2048 .bf16) (harg10 : arg10.IsWhole) (arg11 : Memref sig .tc .vmem S512x2048 .bf16) (harg11 : arg11.IsWhole) (k0_h1 : k0_cond1 i = 1#1) (v1198 : Vec F S128x1 .i32) (X_arg2 : BufTy.Contents (Elt F) arg2.view.ty) (X_arg4 : BufTy.Contents (Elt F) arg4.view.ty) (X_arg5 : BufTy.Contents (Elt F) arg5.view.ty) (X_arg9 : BufTy.Contents (Elt F) arg9.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 arg11 harg11 k0_h1 v1198 X_arg2 X_arg4 X_arg5 X_arg9 k
      = bothDown.map (fun br => ⟨wRect br.1 k br.2,
          wBlk br.1 br.2
            (k0_pay4 (k0_pay55 v1198) (View.readAt (Elt F) arg4.view (oRect i k k0_h1).toLoadRect X_arg4))
            (View.readAt (Elt F) arg9.view (kRect br.1).toLoadRect X_arg9)
            (View.readAt (Elt F) arg2.view (sRect br.1 k br.2).toLoadRect X_arg2
              (Shape.Idx.first (show 0 < (sRect br.1 k br.2).toLoadRect.shape.numel from numel11)))
            (View.readAt (Elt F) arg5.view (wRect br.1 k br.2).toLoadRect X_arg5)⟩) := by
  unfold tripL_k0_t1 trip_k0_t1
  rfl

end Cert.KernelIdeal.Value

end
-- ==== Proof.Block.lean ====
/-
  What the kernel's functions of a block compute over the extended reals, element by element, in the words of `Spec`.
-/
module

public import proofs.«01_k».proof.Proof.Spec
public import proofs.«01_k».proof.Proof.Pieces
public import Idealize.ShloMosaic.Lib.Pointwise

@[expose] public section

set_option maxRecDepth 16384

noncomputable section

namespace Cert.KernelIdeal.Value

open Cert.KernelIdeal Cert.KernelIdeal.Gen Idealize.ShloMosaic Idealize.ShloMosaic.TcCoe Idealize.SL.Sem Cert.Quant Classical

/-- The outlier positions held by an array of 128 × 1 words. -/
def idxOf (I : Vec Ideal S128x1 .i32) : Fin 128 → BitVec 32 := fun t => I (ix2 t 0)

/-- The mask of the columns is 0 at the outliers' columns and only there. -/
theorem keep_apply (I : Vec Ideal S128x1 .i32) (r : Fin 8) (col : Fin 2048) :
    k0_pay54 (F := Ideal) I (ix2 r col) ≠ 0#32 ↔ ¬isOut (idxOf I) col := by
  have h : k0_pay54 (F := Ideal) I (ix2 r col) = (if isOut (idxOf I) col then 1#32 else 0#32) - 1#32 := by
    unfold k0_pay54 k0_pay53
    pointwise
    show IntOp.subi (Finset.fold IntOp.maxsi 2147483648#32 (fun x => BitVec.setWidth 32 (BitVec.ofBool
      (I (ix2 x 0) == BitVec.ofNat 32 col.val))) Finset.univ) 1#32 = _
    rw [fold_hit _ _ ⟨0, Finset.mem_univ _⟩]
    show (if _ then 1#32 else 0#32) - 1#32 = _
    congr 1
    refine if_congr ?_ rfl rfl
    simp [isOut, idxOf]
  rw [h]
  by_cases ho : isOut (idxOf I) col <;> simp [ho]

/-- The conjunction of two flags. -/
theorem andi_bool : ∀ p q : Bool, IntOp.andi (BitVec.ofBool p) (BitVec.ofBool q) = BitVec.ofBool (p && q) := by decide

section block

variable (idx : Fin 128 → BitVec 32) (row : Fin 2048 → EReal) (b : Fin 16) (r : Fin 512)
  (k : Vec Ideal S1x128 .i32) (x : Vec Ideal S512x128 .bf16)
  (hk : ∀ l, k (ix2 0 l) ≠ 0#32 ↔ ¬isOut idx (lane b l)) (hx : ∀ l, x (ix2 r l) = row (lane b l))

include hk hx

/-- The activations that are quantised. -/
theorem in_apply (l : Fin 128) : k0_pay60 k x (ix2 r l) = xin idx row (lane b l) := by
  unfold k0_pay60 k0_pay59
  pointwise
  show Scalar.select (BitVec.ofBool (k (ix2 0 l) != 0#32)) (x (ix2 r l)) 0 = _
  rw [Scalar.select_ofBool, xin, hx]
  by_cases ho : isOut idx (lane b l)
  · rw [if_pos ho, if_neg (by simpa using not_not.mp (mt (hk l).mp (not_not.mpr ho)))]
  · rw [if_neg ho, if_pos (by simpa using (hk l).mpr ho)]

/-- The block's largest magnitude. -/
theorem max_apply (l : Fin 128) : k0_pay61 k x (ix2 r l) = amax idx row b := by
  unfold k0_pay61
  pointwise
  rw [lit_neginf16, amax]
  refine Finset.fold_congr fun l' _ => ?_
  rw [in_apply idx row b r k x hk hx l']
  rfl

/-- The word of its exponent. -/
theorem word_apply (l : Fin 128) : k0_pay62 k x (ix2 r l) = fieldWord (reached (amax idx row b)) := by
  have hm := max_apply idx row b r k x hk hx 0
  unfold k0_pay62
  generalize k0_pay61 k x = m at hm ⊢
  pointwise
  rw [fold_count, ← hm]
  refine congrArg fieldWord (congrArg Finset.card (Finset.ext fun j => ?_))
  rw [Finset.mem_filter, Finset.mem_filter]
  refine and_congr_right fun _ => decide_eq_true_iff.trans ?_
  show Ideal.ofBits .bf16 (BitVec.setWidth 16 (IntOp.maxsi (IntOp.subi
    (IntOp.shli ArithUnit.vector (BitVec.ofNat 32 j.val) 7#32) 32#32) 0#32)) ≤ m (ix2 r 0) ↔ _
  rw [stepWord j, step]

/-- The word of the block's scale. -/
theorem scaleWord_apply (l : Fin 128) : k0_pay63 (k0_pay61 k x) (k0_pay62 k x) (ix2 r l) = scaleWord (amax idx row b) := by
  unfold k0_pay63
  pointwise
  rw [word_apply idx row b r k x hk hx l, max_apply idx row b r k x hk hx l, lit_inf16, scaleWord, andi_bool, Scalar.select_ofBool]
  show (if _ then _ else _) - 1024#16 = _
  congr 1
  refine if_congr ?_ rfl rfl
  simp

/-- The block's scale. -/
theorem blkScale_apply (l : Fin 128) : blkScale k x (ix2 r l) = scale idx row b := by
  unfold blkScale k0_pay64
  show Ideal.ofBits .bf16 (k0_pay63 (k0_pay61 k x) (k0_pay62 k x) (ix2 r l)) = _
  rw [scaleWord_apply idx row b r k x hk hx l]
  exact scale_eq _ (amax_nonneg idx row b)

/-- The codes. -/
theorem blkCodes_apply (l : Fin 128) : blkCodes k x (ix2 r l) = code idx row (lane b l) := by
  unfold blkCodes k0_pay65
  pointwise
  rw [in_apply idx row b r k x hk hx l, scaleWord_apply idx row b r k x hk hx l, lit_448, lit_neg448, code, blk_lane]
  have := inv_eq _ (amax_nonneg idx row b)
  unfold kInv at this
  unfold expo
  rw [← this]
  rfl

/-- The activations that meet the weights. -/
theorem blkComb_apply (l : Fin 128) : blkComb k x (ix2 r l) = comb idx row (lane b l) := by
  have hc := blkCodes_apply idx row b r k x hk hx l
  have hs := blkScale_apply idx row b r k x hk hx l
  unfold blkCodes at hc
  unfold blkScale at hs
  unfold blkComb k0_pay66
  generalize k0_pay65 (k0_pay60 k x) (k0_pay61 k x) (k0_pay62 k x) = q at hc
  generalize k0_pay64 (k0_pay61 k x) (k0_pay62 k x) = s at hs
  unfold k0_pay59
  pointwise
  rw [hc, hs, ← comb_eq_add, blk_lane]
  congr 1
  show Scalar.select (BitVec.ofBool (k (ix2 0 l) != 0#32)) 0 (x (ix2 r l)) = _
  rw [Scalar.select_ofBool, hx]
  by_cases ho : isOut idx (lane b l)
  · rw [if_pos ho, if_neg (by simpa using not_not.mp (mt (hk l).mp (not_not.mpr ho)))]
  · rw [if_neg ho, if_pos (by simpa using (hk l).mpr ho)]

end block

/-- The bf16 word of a block's number denotes that number. -/
theorem laneWord_val (b : Fin 16) : Ideal.ofBits .bf16 (laneWord b) = ((b.val : ℝ) : EReal) := by
  have h0 : laneWord 0 = 0#16 := rfl
  fin_cases b <;> simp [laneWord, Ideal.ofBits, Ideal.ieee, -EReal.coe_mul] <;> norm_num

/-- One scale put into its lane. -/
theorem pick_apply (b : Fin 16) (s prev : FVec Ideal S512x128 .bf16) (r : Fin 512) (l : Fin 128) :
    pick (laneWord b) s prev (ix2 r l) = if l.val = b.val then s (ix2 r l) else prev (ix2 r l) := by
  unfold pick k0_pay57
  pointwise
  rw [laneWord_val]
  have hl : FloatOps.sitofp (F := Ideal) .bf16 (BitVec.ofNat 32 l.val) = ((l.val : ℝ) : EReal) := by
    have : (BitVec.ofNat 32 l.val).toInt = (l.val : ℤ) := by
      rw [BitVec.toInt_eq_toNat_cond, BitVec.toNat_ofNat]; omega
    show (((BitVec.ofNat 32 l.val).toInt : ℝ) : EReal) = _
    rw [this]; rfl
  rw [hl]
  refine if_congr ?_ rfl rfl
  rw [EReal.coe_eq_coe_iff, Nat.cast_inj]

/-- The list of the blocks has them all. -/
theorem mem_upTo15 : ∀ b, b ∈ upTo15 := by decide

/-- The scales side by side: column `b` holds block `b`'s. -/
theorem scaleAll_apply (s : Fin 16 → FVec Ideal S512x128 .bf16) (r : Fin 512) (b : Fin 16) :
    scaleAll s (ix2 r b) = s b (ix2 r ⟨b.val, by omega⟩) := by
  have key : ∀ (L : List (Fin 16)) (z : FVec Ideal S512x128 .bf16),
      (L.foldl (fun prev c => pick (laneWord c) (s c) prev) z) (ix2 r ⟨b.val, by omega⟩)
        = if b ∈ L then s b (ix2 r ⟨b.val, by omega⟩) else z (ix2 r ⟨b.val, by omega⟩) := by
    intro L
    induction L with
    | nil => intro z; rfl
    | cons c L ih =>
      intro z
      rw [List.foldl_cons, ih, pick_apply]
      by_cases h : b ∈ L
      · rw [if_pos h, if_pos (List.mem_cons_of_mem _ h)]
      · rw [if_neg h]
        by_cases hc : b = c
        · subst hc; rw [if_pos rfl, if_pos (List.mem_cons_self)]
        · rw [if_neg (fun e => hc (Fin.ext e)), if_neg (by simp [hc, h])]
  unfold scaleAll
  pointwise
  rw [key, if_pos (mem_upTo15 b)]

/-- The full-precision weights spread over the columns: each stands at its outlier's column. -/
theorem full_apply (I : Vec Ideal S128x1 .i32) (w : Vec Ideal S256x128 .bf16) (r : Fin 256) (col : Fin 2048) :
    k0_pay4 (F := Ideal) (k0_pay55 I) w (ix2 r col)
      = ∑ t : Fin 128, w (ix2 r t) * (if idxOf I t = BitVec.ofNat 32 col.val then 1 else 0) := by
  unfold k0_pay4 k0_pay55 k0_pay53
  pointwise
  refine Finset.sum_congr rfl fun t _ => ?_
  exact congrArg (w (ix2 r t) * ·) (sitofp_eq _ _)

/-- The weights that the activations meet. -/
theorem wBlk_apply (idx : Fin 128 → BitVec 32) (b : Fin 16) (h : Fin 2) (full : FVec Ideal S256x2048 .bf16)
    (k : Vec Ideal S1x128 .i32) (s : EReal) (w : Vec Ideal S128x128 .fp8e4m3) (r l : Fin 128) (f : Fin 128 → EReal)
    (hk : k (ix2 0 l) ≠ 0#32 ↔ ¬isOut idx (lane b l))
    (hf : full (ix2 ⟨128 * h.val + r.val, by omega⟩ (lane b l))
      = ∑ t : Fin 128, f t * (if idx t = BitVec.ofNat 32 (lane b l).val then 1 else 0)) :
    wBlk (F := Ideal) b h full k s w (ix2 r l) = wcomb idx f (w (ix2 r l)) s (lane b l) := by
  unfold wBlk
  pointwise
  show Scalar.select (BitVec.ofBool (k (ix2 0 l) != 0#32)) (w (ix2 r l) * s) (full (ix2 ⟨128 * h.val + r.val, _⟩ (lane b l))) = _
  rw [Scalar.select_ofBool, hf, wcomb]
  by_cases ho : isOut idx (lane b l)
  · rw [if_pos ho, if_neg (by simpa using not_not.mp (mt hk.mp (not_not.mpr ho)))]
  · rw [if_neg ho, if_pos (by simpa using hk.mpr ho)]

/-- The product of two arrays along their columns. -/
theorem dot_apply (x : Vec Ideal S512x2048 .bf16) (w : Vec Ideal S3072x2048 .bf16) (r : Fin 512) (o : Fin 3072) :
    k0_pay3 (F := Ideal) x w (ix2 r o) = ∑ col : Fin 2048, x (ix2 r col) * w (ix2 o col) := by
  unfold k0_pay3
  pointwise

end Cert.KernelIdeal.Value

end
-- ==== Proof.Points.lean ====
/-
  What one grid point of the kernel leaves in its outputs and in the two arrays that it carries, in the words of `Spec`.
-/
module

public import proofs.«01_k».proof.Proof.Block

@[expose] public section

set_option maxRecDepth 16384

noncomputable section

namespace Cert.KernelIdeal.Value

open Cert.KernelIdeal Cert.KernelIdeal.Gen Idealize.ShloMosaic Idealize.ShloMosaic.TcCoe Idealize.SL.Sem Cert.Quant Classical

/-! ## Reading whole arrays and reading by blocks -/

/-- A whole array read is what the buffer holds. -/
theorem readAt_whole {S : Shape} {e : EltTy} {κ : Kind} {sp : Space} (v : View sig κ sp S e) {off : Fin S.rank → Nat}
    (h : off = fun _ => 0) (inb : ∀ a, off a + S.size a ≤ S.size a) (f : v.ty.Contents (Elt Ideal)) :
    (View.readAt (Elt Ideal) v (Rect.unit off S.size inb).toLoadRect f : S.Idx → Elt Ideal e) = v.read (Elt Ideal) f :=
  (View.readAt_eq_ld v f _).trans (View.ld_unit_zero h inb _)

/-- A whole array stored is what the buffer holds. -/
theorem read_whole {S : Shape} {e : EltTy} {κ : Kind} {sp : Space} (v : View sig κ sp S e) (f : v.ty.Contents (Elt Ideal))
    {off : Fin S.rank → Nat} (h : off = fun _ => 0) (inb : ∀ a, off a + S.size a ≤ S.size a) (w : S.Idx → Elt Ideal e) :
    v.read (Elt Ideal) (v.writes (Elt Ideal) f [⟨Rect.unit off S.size inb, w⟩]) = w := by
  rw [View.read_writes_eq_canon v f _ (fun y => ⟨_, List.mem_singleton_self _, by
    subst h; show y ∈ (Rect.whole S).set; rw [Rect.set_whole]; exact Finset.mem_univ y⟩)]
  exact View.canon_unit_zero h inb w

/-- Block `b` of the mask's first row. -/
theorem ld_keep (K : Vec Ideal S8x2048 .i32) (b : Fin 16) (l : Fin 128) :
    View.ld K (kRect b) (ix2 0 l) = K (ix2 0 (lane b l)) := by
  show K ((kRect b).emb (ix2 0 l)) = _
  congr 1
  funext a
  apply Fin.ext
  match a with
  | ⟨0, _⟩ => rfl
  | ⟨1, _⟩ => show 128 * b.val + 1 * l.val = 128 * b.val + l.val; omega

/-- Block `b` of the activations. -/
theorem ld_x (X : Vec Ideal S512x2048 .bf16) (b : Fin 16) (r : Fin 512) (l : Fin 128) :
    View.ld X (xRect b) (ix2 r l) = X (ix2 r (lane b l)) := by
  show X ((xRect b).emb (ix2 r l)) = _
  congr 1
  funext a
  apply Fin.ext
  match a with
  | ⟨0, _⟩ => show 0 + 1 * r.val = r.val; omega
  | ⟨1, _⟩ => show 128 * b.val + 1 * l.val = 128 * b.val + l.val; omega

/-- 16 blocks stored side by side: the element at a column is its block's. -/
theorem read_blocks {e : EltTy} {κ : Kind} {sp : Space} (v : View sig κ sp S512x2048 e) (f : v.ty.Contents (Elt Ideal))
    (g : Fin 16 → Vec Ideal S512x128 e) (r : Fin 512) (col : Fin 2048) :
    v.read (Elt Ideal) (v.writes (Elt Ideal) f (downFrom15.map fun b => ⟨xRect b, g b⟩)) (ix2 r col) = g (blk col) (ix2 r (lan col)) := by
  refine View.read_writes_apply_of_pieces v f (fun y => g (blk (y 1)) (ix2 (y 0) (lan (y 1)))) _ ?_ _ ?_
  · intro p hp x
    obtain ⟨b, -, rfl⟩ := List.mem_map.mp hp
    have key : ∀ y : S512x128.Idx, g b y = g (blk ((xRect b).emb y 1)) (ix2 ((xRect b).emb y 0) (lan ((xRect b).emb y 1))) := by
      intro y
      have hy : (y 1).val < 128 := (y 1).isLt
      have gen : ∀ (b' : Fin 16) (i : Fin 512) (j : Fin 128), b' = b → i = y 0 → j = y 1 → g b y = g b' (ix2 i j) := by
        rintro _ _ _ rfl rfl rfl
        congr 1
        funext a
        match a with
        | ⟨0, _⟩ => rfl
        | ⟨1, _⟩ => rfl
      refine gen _ _ _ (Fin.ext ?_) (Fin.ext ?_) (Fin.ext ?_)
      · show (128 * b.val + 1 * (y 1).val) / 128 = b.val; omega
      · show 0 + 1 * (y 0).val = (y 0).val; omega
      · show (128 * b.val + 1 * (y 1).val) % 128 = (y 1).val; omega
    exact key x
  · refine ⟨⟨xRect (blk col), g (blk col)⟩, List.mem_map.mpr ⟨blk col, ?_, rfl⟩, ?_⟩
    · generalize blk col = b
      revert b; decide
    · rw [Rect.mem_set_unit]
      intro a
      match a with
      | ⟨0, _⟩ => exact ⟨Nat.zero_le _, by show r.val < 0 + 512; omega⟩
      | ⟨1, _⟩ => exact ⟨by show 128 * (col.val / 128) ≤ col.val; omega, by show col.val < 128 * (col.val / 128) + 128; omega⟩

section point

variable (idx : Fin 128 → BitVec 32) (k : Fin 16 → Vec Ideal S1x128 .i32) (x : Fin 16 → Vec Ideal S512x128 .bf16) (x2 : Vec Ideal S512x2048 .bf16)
  (hk : ∀ b l, k b (ix2 0 l) ≠ 0#32 ↔ ¬isOut idx (lane b l)) (hx : ∀ b r l, x b (ix2 r l) = x2 (ix2 r (lane b l)))

include hk hx

/-- The codes of a point's rows. -/
theorem read_codes {κ : Kind} {sp : Space} (v : View sig κ sp S512x2048 .fp8e4m3) (f : v.ty.Contents (Elt Ideal)) (r : Fin 512) (col : Fin 2048) :
    v.read (Elt Ideal) (v.writes (Elt Ideal) f (downFrom15.map fun b => ⟨xRect b, blkCodes (k b) (x b)⟩)) (ix2 r col)
      = code idx (fun col => x2 (ix2 r col)) col := by
  rw [read_blocks, blkCodes_apply idx (fun col => x2 (ix2 r col)) (blk col) r _ _ (hk _) (hx _ r), lane_blk]

/-- The activations of a point's rows that meet the weights. -/
theorem read_comb {κ : Kind} {sp : Space} (v : View sig κ sp S512x2048 .bf16) (f : v.ty.Contents (Elt Ideal)) (r : Fin 512) (col : Fin 2048) :
    v.read (Elt Ideal) (v.writes (Elt Ideal) f (downFrom15.map fun b => ⟨xRect b, blkComb (k b) (x b)⟩)) (ix2 r col)
      = comb idx (fun col => x2 (ix2 r col)) col := by
  rw [read_blocks, blkComb_apply idx (fun col => x2 (ix2 r col)) (blk col) r _ _ (hk _) (hx _ r), lane_blk]

/-- The scales of a point's rows. -/
theorem read_scales (r : Fin 512) (b : Fin 16) :
    scaleAll (fun b => blkScale (k b) (x b)) (ix2 r b) = scale idx (fun col => x2 (ix2 r col)) b := by
  rw [scaleAll_apply]
  exact blkScale_apply idx (fun col => x2 (ix2 r col)) b r _ _ (hk _) (hx _ r) _

end point

/-- No offset at all. -/
theorem hz : (![0, 0] : Fin 2 → Nat) = fun _ => 0 := by decide

variable (c : Dev nD) (i : grid0.Coords) (arg1 : Memref sig .tc .vmem S128x1 .i32) (harg1 : arg1.IsWhole) (arg2 : Memref sig .tc .smem S24x16 .f32) (harg2 : arg2.IsWhole) (arg3 : Memref sig .tc .vmem S512x2048 .bf16) (harg3 : arg3.IsWhole) (arg4 : Memref sig .tc .vmem S3072x128 .bf16) (harg4 : arg4.IsWhole) (arg5 : Memref sig .tc .vmem S3072x2048 .fp8e4m3) (harg5 : arg5.IsWhole) (arg6 : Memref sig .tc .vmem S512x3072 .bf16) (harg6 : arg6.IsWhole) (arg7 : Memref sig .tc .vmem S512x2048 .fp8e4m3) (harg7 : arg7.IsWhole) (arg8 : Memref sig .tc .vmem S512x16 .f32) (harg8 : arg8.IsWhole) (arg9 : Memref sig .tc .vmem S8x2048 .i32) (harg9 : arg9.IsWhole) (arg10 : Memref sig .tc .vmem S3072x2048 .bf16) (harg10 : arg10.IsWhole) (arg11 : Memref sig .tc .vmem S512x2048 .bf16) (harg11 : arg11.IsWhole)
  (x0 : Vec Ideal S128x1 .i32) (x1 : Vec Ideal S24x16 .f32) (x2 : Vec Ideal S512x2048 .bf16) (x3 : Vec Ideal S3072x128 .bf16) (x4 : Vec Ideal S3072x2048 .fp8e4m3) (xs0 : Vec Ideal S8x2048 .i32) (xs1 : Vec Ideal S3072x2048 .bf16)

/-- A point's activations, by blocks. -/
theorem x_blocks (b : Fin 16) (r : Fin 512) (l : Fin 128) :
    View.readAt (Elt Ideal) arg3.view (xRect b).toLoadRect (harg3.unread x2) (ix2 r l) = x2 (ix2 r (lane b l)) := by
  rw [View.readAt_eq_ld, harg3.read_unread]
  exact ld_x x2 b r l

/-! ## A later point (B) -/

section B

variable (hc0 : ¬cond0_0 i) (idx : Fin 128 → BitVec 32) (hkeep : ∀ r col, xs0 (ix2 r col) ≠ 0#32 ↔ ¬isOut idx col)

include hkeep

/-- The carried mask, by blocks. -/
theorem keep_B (b : Fin 16) (l : Fin 128) :
    View.readAt (Elt Ideal) arg9.view (kRect b).toLoadRect (harg9.unread xs0) (ix2 0 l) ≠ 0#32 ↔ ¬isOut idx (lane b l) := by
  rw [View.readAt_eq_ld, harg9.read_unread, ← hkeep 0 (lane b l)]
  exact not_congr (Eq.congr_left (ld_keep xs0 b l))

/-- The codes. -/
theorem out6_B (r : Fin 512) (col : Fin 2048) :
    out0_B_6 c i arg1 harg1 arg2 harg2 arg3 harg3 arg4 harg4 arg5 harg5 arg6 harg6 arg7 harg7 arg8 harg8 arg9 harg9 arg10 harg10 arg11 harg11 hc0 x0 x1 x2 x3 x4 xs0 xs1 (ix2 r col) = code idx (fun col => x2 (ix2 r col)) col := by
  unfold out0_B_6
  rw [codes_B]
  exact read_codes idx _ _ x2 (keep_B arg9 harg9 xs0 idx hkeep) (x_blocks arg3 harg3 x2) _ _ r col

/-- The scales. -/
theorem out7_B (r : Fin 512) (b : Fin 16) :
    out0_B_7 c i arg1 harg1 arg2 harg2 arg3 harg3 arg4 harg4 arg5 harg5 arg6 harg6 arg7 harg7 arg8 harg8 arg9 harg9 arg10 harg10 arg11 harg11 hc0 x0 x1 x2 x3 x4 xs0 xs1 (ix2 r b) = scale idx (fun col => x2 (ix2 r col)) b := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 hc0 x0 x1 x2 x3 x4 xs0 xs1), scales_B]
  refine (congrFun (View.canon_unit_zero hz _ _) (ix2 r b)).trans ?_
  exact read_scales idx _ _ x2 (keep_B arg9 harg9 xs0 idx hkeep) (x_blocks arg3 harg3 x2) r b

/-- The product with the carried weights. -/
theorem out5_B (r : Fin 512) (o : Fin 3072) :
    out0_B_5 c i arg1 harg1 arg2 harg2 arg3 harg3 arg4 harg4 arg5 harg5 arg6 harg6 arg7 harg7 arg8 harg8 arg9 harg9 arg10 harg10 arg11 harg11 hc0 x0 x1 x2 x3 x4 xs0 xs1 (ix2 r o)
      = ∑ col, comb idx (fun col => x2 (ix2 r col)) col * xs1 (ix2 o col) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 arg11 harg11 hc0 x0 x1 x2 x3 x4 xs0 xs1)]
  unfold kernelRun0_B
  dsimp only
  refine (congrFun (View.canon_unit_zero hz _ _) (ix2 r o)).trans ?_
  rw [dot_apply]
  refine Finset.sum_congr rfl fun col _ => ?_
  refine congrArg₂ (· * ·) ?_ ?_
  · unfold kernelRun0_B.sl.v1193
    rw [comb_B c i arg1 harg1 arg2 harg2 arg3 harg3 arg4 harg4 arg5 harg5 arg6 harg6 arg7 harg7 arg8 harg8 arg9 harg9 arg10 harg10 arg11 harg11 hc0 x0 x1 x2 x3 x4 xs0 xs1]
    refine (congrFun (readAt_whole arg11.view hz _ _) (ix2 r col)).trans ?_
    exact read_comb idx _ _ x2 (keep_B arg9 harg9 xs0 idx hkeep) (x_blocks arg3 harg3 x2) _ _ r col
  · refine (congrFun (readAt_whole arg10.view hz _ _) (ix2 o col)).trans ?_
    rw [harg10.read_unread]

end B

/-! ## The weights that the first point prepares -/

/-- An element of the array of the weights that the activations meet. -/
def weight (idx : Fin 128 → BitVec 32) (x1 : Vec Ideal S24x16 .f32) (x3 : Vec Ideal S3072x128 .bf16) (x4 : Vec Ideal S3072x2048 .fp8e4m3)
    (o : Fin 3072) (col : Fin 2048) : EReal :=
  wcomb idx (fun t => x3 (ix2 o t)) (x4 (ix2 o col)) (x1 (ix2 ⟨o.val / 128, by omega⟩ (blk col))) col

/-- Where row `r`, lane `l` of half `h` of block `b` of trip `k` lies. -/
theorem wRect_emb (b : Fin 16) (k : Fin k0_t1_loop.trips) (h : Fin 2) (r l : Fin 128) (hb : 256 * k.val + 128 * h.val + r.val < 3072) :
    (wRect b k h).emb (ix2 r l) = ix2 ⟨256 * k.val + 128 * h.val + r.val, hb⟩ (lane b l) := by
  have e := wOff_eq b k h
  funext a
  apply Fin.ext
  match a with
  | ⟨0, _⟩ =>
    show wOff b k (BitVec.ofNat 32 (128 * h.val)) 0 + 1 * r.val = _
    rw [e]
    show 256 * k.val + 128 * h.val + 1 * r.val = 256 * k.val + 128 * h.val + r.val
    omega
  | ⟨1, _⟩ =>
    show wOff b k (BitVec.ofNat 32 (128 * h.val)) 1 + 1 * l.val = _
    rw [e]
    show 128 * b.val + 1 * l.val = 128 * b.val + l.val
    omega

/-- Where the scale of that block lies. -/
theorem sRect_emb (b : Fin 16) (k : Fin k0_t1_loop.trips) (h : Fin 2) (z : S1x1.Idx) (hb : 2 * k.val + h.val < 24) :
    (sRect b k h).emb z = ix2 ⟨2 * k.val + h.val, hb⟩ b := by
  have e := sOff_eq b k h
  have h0 : (z 0).val < 1 := (z 0).isLt
  have h1 : (z 1).val < 1 := (z 1).isLt
  funext a
  apply Fin.ext
  match a with
  | ⟨0, _⟩ =>
    show sOff b k (BitVec.ofNat 32 h.val) 0 + 1 * (z 0).val = _
    rw [e]
    show 2 * k.val + h.val + 1 * (z 0).val = 2 * k.val + h.val
    omega
  | ⟨1, _⟩ =>
    show sOff b k (BitVec.ofNat 32 h.val) 1 + 1 * (z 1).val = _
    rw [e]
    show b.val + 1 * (z 1).val = b.val
    omega

/-- Where a trip's full-precision weights lie. -/
theorem oRect_emb (i : grid0.Coords) (k : Fin k0_t1_loop.trips) (h1 : k0_cond1 i = 1#1) (r : Fin 256) (t : Fin 128)
    (hb : 256 * k.val + r.val < 3072) : (oRect i k h1).emb (ix2 r t) = ix2 ⟨256 * k.val + r.val, hb⟩ t := by
  have e := k0_off1_eq k
  funext a
  apply Fin.ext
  match a with
  | ⟨0, _⟩ =>
    show k0_off1 k 0 + 1 * r.val = _
    rw [e]
    show 256 * k.val + 1 * r.val = 256 * k.val + r.val
    omega
  | ⟨1, _⟩ =>
    show k0_off1 k 1 + 1 * t.val = _
    rw [e]
    show 0 + 1 * t.val = t.val
    omega

section loop

variable (𝒱 : Variants) (bd : Option 𝒱.V) (k0_h1 : k0_cond1 i = 1#1) (v : Vec Ideal S128x1 .i32) (K : BufTy.Contents (Elt Ideal) arg9.view.ty)
  (hK : ∀ b l, View.readAt (Elt Ideal) arg9.view (kRect b).toLoadRect K (ix2 0 l) ≠ 0#32 ↔ ¬isOut (idxOf v) (lane b l))

include hK

/-- What one block of a trip stores. -/
theorem block_weight (b : Fin 16) (k : Fin k0_t1_loop.trips) (h : Fin 2) (r l : Fin 128) (hb : 256 * k.val + 128 * h.val + r.val < 3072) :
    wBlk b h (k0_pay4 (k0_pay55 v) (View.readAt (Elt Ideal) arg4.view (oRect i k k0_h1).toLoadRect (harg4.unread x3)))
        (View.readAt (Elt Ideal) arg9.view (kRect b).toLoadRect K)
        (View.readAt (Elt Ideal) arg2.view (sRect b k h).toLoadRect (harg2.unread x1)
          (Shape.Idx.first (show 0 < (sRect b k h).toLoadRect.shape.numel from numel11)))
        (View.readAt (Elt Ideal) arg5.view (wRect b k h).toLoadRect (harg5.unread x4)) (ix2 r l)
      = weight (idxOf v) x1 x3 x4 ⟨256 * k.val + 128 * h.val + r.val, hb⟩ (lane b l) := by
  rw [wBlk_apply (idxOf v) b h _ _ _ _ r l (fun t => x3 (ix2 ⟨256 * k.val + 128 * h.val + r.val, hb⟩ t)) (hK b l)]
  · unfold weight
    rw [View.readAt_eq_ld, View.readAt_eq_ld, harg5.read_unread, harg2.read_unread]
    have e5 : View.ld x4 (wRect b k h) (ix2 r l) = x4 (ix2 ⟨256 * k.val + 128 * h.val + r.val, hb⟩ (lane b l)) :=
      congrArg x4 (wRect_emb b k h r l hb)
    have e2 : View.ld x1 (sRect b k h) (Shape.Idx.first (show 0 < (sRect b k h).toLoadRect.shape.numel from numel11))
        = x1 (ix2 ⟨(256 * k.val + 128 * h.val + r.val) / 128, by omega⟩ (blk (lane b l))) := by
      have h24 : 2 * k.val + h.val < 24 := by omega
      have hq : (256 * k.val + 128 * h.val + r.val) / 128 = 2 * k.val + h.val := by omega
      rw [blk_lane]
      refine congrArg x1 ((sRect_emb b k h _ h24).trans ?_)
      congr 1
      exact Fin.ext hq.symm
    rw [e5, e2]
  · rw [full_apply]
    refine Finset.sum_congr rfl fun t _ => ?_
    refine congrArg (· * _) ?_
    rw [View.readAt_eq_ld, harg4.read_unread]
    have hb' : 256 * k.val + (128 * h.val + r.val) < 3072 := by omega
    refine congrArg x3 ((oRect_emb i k k0_h1 ⟨128 * h.val + r.val, by omega⟩ t hb').trans ?_)
    congr 1
    exact Fin.ext (Nat.add_assoc _ _ _).symm

/-- All that the trips store agrees with one array. -/
theorem loop_weight : ∀ n, n ≤ k0_t1_loop.trips → ∀ p ∈ pb_k0_t1 (F := Ideal) 𝒱 c bd i arg1 harg1 arg2 harg2 arg3 harg3 arg4 harg4 arg5 harg5 arg6 harg6 arg7 harg7 arg8 harg8 arg9 harg9 arg10 harg10 arg11 harg11 k0_h1 v (harg2.unread x1) (harg4.unread x3) (harg5.unread x4) K n,
    ∀ y : p.1.shape.Idx, p.2 y = weight (idxOf v) x1 x3 x4 (p.1.emb y 0) (p.1.emb y 1) := by
  intro n
  induction n with
  | zero => intro _ p hp; exact absurd hp List.not_mem_nil
  | succ n ih =>
    intro hn p hp
    have hs := pb_k0_t1_succ (F := Ideal) 𝒱 c bd i arg1 harg1 arg2 harg2 arg3 harg3 arg4 harg4 arg5 harg5 arg6 harg6 arg7 harg7 arg8 harg8 arg9 harg9 arg10 harg10 arg11 harg11 k0_h1 v (harg2.unread x1) (harg4.unread x3) (harg5.unread x4) K ⟨n, hn⟩
    rw [hs, trip_eq, List.mem_append] at hp
    rcases hp with hp | hp
    · obtain ⟨⟨b, h⟩, -, rfl⟩ := List.mem_map.mp hp
      have hk : n < 12 := Nat.lt_of_lt_of_le hn k0_t1_abs.2.1
      have key : ∀ r l : Fin 128, wBlk b h (k0_pay4 (k0_pay55 v) (View.readAt (Elt Ideal) arg4.view (oRect i ⟨n, hn⟩ k0_h1).toLoadRect (harg4.unread x3)))
          (View.readAt (Elt Ideal) arg9.view (kRect b).toLoadRect K)
          (View.readAt (Elt Ideal) arg2.view (sRect b ⟨n, hn⟩ h).toLoadRect (harg2.unread x1)
            (Shape.Idx.first (show 0 < (sRect b ⟨n, hn⟩ h).toLoadRect.shape.numel from numel11)))
          (View.readAt (Elt Ideal) arg5.view (wRect b ⟨n, hn⟩ h).toLoadRect (harg5.unread x4)) (ix2 r l)
          = weight (idxOf v) x1 x3 x4 ((wRect b ⟨n, hn⟩ h).emb (ix2 r l) 0) ((wRect b ⟨n, hn⟩ h).emb (ix2 r l) 1) := by
        intro r l
        have hb : 256 * n + 128 * h.val + r.val < 3072 := by omega
        rw [wRect_emb b ⟨n, hn⟩ h r l hb]
        exact block_weight i arg2 harg2 arg4 harg4 arg5 harg5 arg9 x1 x3 x4 k0_h1 v K hK b ⟨n, hn⟩ h r l hb
      intro y
      have hy : y = ix2 (y 0) (y 1) := by
        funext a
        match a with
        | ⟨0, _⟩ => rfl
        | ⟨1, _⟩ => rfl
      rw [hy]
      exact key (y 0) (y 1)
    · exact ih (by omega) p hp

end loop

/-! ## The first point (A) -/

section A

variable (hc0 : cond0_0 i)

/-- The mask that the first point stores. -/
theorem mask_A : arg9.view.read (Elt Ideal) (arg9.view.writes (Elt Ideal) arg9.view.junk (kernelRun0_A.sl.HS0_1 c arg1 harg1 x0)) = k0_pay54 x0 := by
  unfold kernelRun0_A.sl.HS0_1
  refine (read_whole arg9.view _ hz _ _).trans (congrArg k0_pay54 ?_)
  exact (readAt_whole arg1.view hz _ _).trans (harg1.read_unread _)

/-- The stored mask, by blocks. -/
theorem keep_A (b : Fin 16) (l : Fin 128) :
    View.readAt (Elt Ideal) arg9.view (kRect b).toLoadRect (arg9.view.writes (Elt Ideal) arg9.view.junk (kernelRun0_A.sl.HS0_1 c arg1 harg1 x0)) (ix2 0 l) ≠ 0#32
      ↔ ¬isOut (idxOf x0) (lane b l) := by
  rw [View.readAt_eq_ld, mask_A c arg1 harg1 arg9 x0, ← keep_apply x0 0 (lane b l)]
  exact not_congr (Eq.congr_left (ld_keep _ b l))

/-- The mask that is carried. -/
theorem sout0_A (r : Fin 8) (col : Fin 2048) :
    sout0_A_0 c i arg1 harg1 arg2 harg2 arg3 harg3 arg4 harg4 arg5 harg5 arg6 harg6 arg7 harg7 arg8 harg8 arg9 harg9 arg10 harg10 arg11 harg11 hc0 x0 x1 x2 x3 x4 (ix2 r col) ≠ 0#32 ↔ ¬isOut (idxOf x0) col := by
  rw [← keep_apply x0 r col]
  refine not_congr (Eq.congr_left (congrFun ?_ (ix2 r col)))
  unfold sout0_A_0 kernelRun0_A
  dsimp only
  unfold kernelRun0_A.sl.HS0_1
  refine (read_whole _ _ hz _ _).trans (congrArg k0_pay54 ?_)
  exact (readAt_whole arg1.view hz _ _).trans (harg1.read_unread _)

/-- The codes. -/
theorem out6_A (r : Fin 512) (col : Fin 2048) :
    out0_A_6 c i arg1 harg1 arg2 harg2 arg3 harg3 arg4 harg4 arg5 harg5 arg6 harg6 arg7 harg7 arg8 harg8 arg9 harg9 arg10 harg10 arg11 harg11 hc0 x0 x1 x2 x3 x4 (ix2 r col) = code (idxOf x0) (fun col => x2 (ix2 r col)) col := by
  unfold out0_A_6
  rw [codes_A]
  exact read_codes (idxOf x0) _ _ x2 (keep_A c arg1 harg1 arg9 x0) (x_blocks arg3 harg3 x2) _ _ r col

/-- The scales. -/
theorem out7_A (r : Fin 512) (b : Fin 16) :
    out0_A_7 c i arg1 harg1 arg2 harg2 arg3 harg3 arg4 harg4 arg5 harg5 arg6 harg6 arg7 harg7 arg8 harg8 arg9 harg9 arg10 harg10 arg11 harg11 hc0 x0 x1 x2 x3 x4 (ix2 r b) = scale (idxOf x0) (fun col => x2 (ix2 r col)) b := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 hc0 x0 x1 x2 x3 x4), scales_A]
  refine (congrFun (View.canon_unit_zero hz _ _) (ix2 r b)).trans ?_
  exact read_scales (idxOf x0) _ _ x2 (keep_A c arg1 harg1 arg9 x0) (x_blocks arg3 harg3 x2) r b

/-- The product with the weights that the first point prepares. -/
theorem out5_A (r : Fin 512) (o : Fin 3072) :
    out0_A_5 c i arg1 harg1 arg2 harg2 arg3 harg3 arg4 harg4 arg5 harg5 arg6 harg6 arg7 harg7 arg8 harg8 arg9 harg9 arg10 harg10 arg11 harg11 hc0 x0 x1 x2 x3 x4 (ix2 r o)
      = ∑ col, comb (idxOf x0) (fun col => x2 (ix2 r col)) col * sout0_A_1 c i arg1 harg1 arg2 harg2 arg3 harg3 arg4 harg4 arg5 harg5 arg6 harg6 arg7 harg7 arg8 harg8 arg9 harg9 arg10 harg10 arg11 harg11 hc0 x0 x1 x2 x3 x4 (ix2 o col) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 arg11 harg11 hc0 x0 x1 x2 x3 x4)]
  unfold kernelRun0_A
  dsimp only
  refine (congrFun (View.canon_unit_zero hz _ _) (ix2 r o)).trans ?_
  rw [dot_apply]
  refine Finset.sum_congr rfl fun col _ => ?_
  refine congrArg₂ (· * ·) ?_ ?_
  · unfold kernelRun0_A.sl.v1193
    rw [comb_A c i arg1 harg1 arg2 harg2 arg3 harg3 arg4 harg4 arg5 harg5 arg6 harg6 arg7 harg7 arg8 harg8 arg9 harg9 arg10 harg10 arg11 harg11 hc0 x0 x1 x2 x3 x4]
    refine (congrFun (readAt_whole arg11.view hz _ _) (ix2 r col)).trans ?_
    exact read_comb (idxOf x0) _ _ x2 (keep_A c arg1 harg1 arg9 x0) (x_blocks arg3 harg3 x2) _ _ r col
  · refine (congrFun (readAt_whole arg10.view hz _ _) (ix2 o col)).trans ?_
    unfold sout0_A_1
    rw [View.read_writes_eq_canon VS0_1 _ _ (scover0_A_1 c i arg1 harg1 arg2 harg2 arg3 harg3 arg4 harg4 arg5 harg5 arg6 harg6 arg7 harg7 arg8 harg8 arg9 harg9 arg10 harg10 arg11 harg11 hc0 x0 x1 x2 x3 x4)]
    exact congrFun (View.read_writes_eq_canon arg10.view _ _ (scover0_A_1 c i arg1 harg1 arg2 harg2 arg3 harg3 arg4 harg4 arg5 harg5 arg6 harg6 arg7 harg7 arg8 harg8 arg9 harg9 arg10 harg10 arg11 harg11 hc0 x0 x1 x2 x3 x4)) (ix2 o col)

/-- The weights that are carried. -/
theorem sout1_A (o : Fin 3072) (col : Fin 2048) :
    sout0_A_1 c i arg1 harg1 arg2 harg2 arg3 harg3 arg4 harg4 arg5 harg5 arg6 harg6 arg7 harg7 arg8 harg8 arg9 harg9 arg10 harg10 arg11 harg11 hc0 x0 x1 x2 x3 x4 (ix2 o col) = weight (idxOf x0) x1 x3 x4 o col := by
  have hv : (View.readAt (Elt Ideal) arg1.view (Rect.unit ![0, 0] S128x1.size inb_S128x1_S128x1_0_0).toLoadRect (harg1.unread x0) : Vec Ideal S128x1 .i32) = x0 :=
    (readAt_whole arg1.view hz _ _).trans (harg1.read_unread _)
  unfold sout0_A_1
  refine View.read_writes_apply_of_pieces VS0_1 _ (fun y => weight (idxOf x0) x1 x3 x4 (y 0) (y 1)) _ ?_ _
    (scover0_A_1 c i arg1 harg1 arg2 harg2 arg3 harg3 arg4 harg4 arg5 harg5 arg6 harg6 arg7 harg7 arg8 harg8 arg9 harg9 arg10 harg10 arg11 harg11 hc0 x0 x1 x2 x3 x4 (ix2 o col))
  unfold kernelRun0_A
  dsimp only
  intro p hp
  refine loop_weight c i arg1 harg1 arg2 harg2 arg3 harg3 arg4 harg4 arg5 harg5 arg6 harg6 arg7 harg7 arg8 harg8 arg9 harg9 arg10 harg10 arg11 harg11 x1 x3 x4 Variants.none none hc0 x0 _ (keep_A c arg1 harg1 arg9 x0)
    (Scf.trips (0#32) (Scalar.addi 0#32 12#32) 1#32) (Nat.le_of_eq rfl) p ?_
  exact Eq.mp (congrArg (fun v => p ∈ pb_k0_t1 (F := Ideal) Variants.none c none i arg1 harg1 arg2 harg2 arg3 harg3 arg4 harg4 arg5 harg5
    arg6 harg6 arg7 harg7 arg8 harg8 arg9 harg9 arg10 harg10 arg11 harg11 hc0 v (harg2.unread x1) (harg4.unread x3) (harg5.unread x4)
    (arg9.view.writes (Elt Ideal) arg9.view.junk (kernelRun0_A.sl.HS0_1 c arg1 harg1 x0))
    (Scf.trips (0#32) (Scalar.addi 0#32 12#32) 1#32)) hv) hp

end A

end Cert.KernelIdeal.Value

end
-- ==== Proof.Arrays.lean ====
/-
  What the kernel's three result arrays hold after its run, element by element, in the words of `Spec`.
-/
module

public import proofs.«01_k».proof.Proof.Points

@[expose] public section

set_option maxRecDepth 16384

noncomputable section

namespace Cert.KernelIdeal.Value

open Cert.KernelIdeal Cert.KernelIdeal.Gen Idealize.ShloMosaic Idealize.ShloMosaic.TcCoe Idealize.SL.Sem Cert.Quant Classical

variable (m : (ℓ : Loc nD τ sig) → Buf (Elt Ideal) ℓ)

/-! ## The arrays that the kernel's region reads -/

/-- The outlier positions, one word per row. -/
abbrev inIdx (c : Dev nD) : Vec Ideal S128x1 .i32 := V m c main_v0
/-- The activations, one row per token. -/
abbrev inX (c : Dev nD) : Vec Ideal S12288x2048 .bf16 := V m c main_v1
/-- The full-precision columns of the weights. -/
abbrev inFull (c : Dev nD) : Vec Ideal S3072x128 .bf16 := V m c main_arg2
/-- The weights' codes. -/
abbrev inCodes (c : Dev nD) : Vec Ideal S3072x2048 .fp8e4m3 := V m c main_arg3
/-- The weights' scales. -/
abbrev inScale (c : Dev nD) : Vec Ideal S24x16 .f32 := V m c main_arg4

/-- Where each point's blocks start: at the first element in the arrays of the positions, the scales, the full-precision columns
    and the codes; at block `t` of the rows in the activations. -/
theorem index_facts : ∀ t : Fin cfg0.N,
    (∀ a, win0_0.index t a = 0) ∧ (∀ a, win0_1.index t a = 0) ∧ (∀ a, win0_3.index t a = 0) ∧ (∀ a, win0_4.index t a = 0)
    ∧ win0_2.index t (0 : Fin 2) = t.val ∧ win0_2.index t (1 : Fin 2) = 0 :=
  (by decide +kernel : ∀ t : Fin grid0.N, _)

/-- Every point sees all positions. -/
theorem iblk_idx (c : Dev nD) (t : Fin cfg0.N) : (iblk m c 0 t : Vec Ideal S128x1 .i32) = inIdx m c := by
  have h := (index_facts t).1
  funext j
  unfold iblk
  rw [View.read_apply]
  show V m c main_v0 _ = V m c main_v0 _
  congr 1
  funext a
  apply Fin.ext
  match a with
  | ⟨0, _⟩ => show win0_0.index t 0 * 128 + 1 * (j 0).val = (j 0).val; rw [h 0]; omega
  | ⟨1, _⟩ => show win0_0.index t 1 * 1 + 1 * (j 1).val = (j 1).val; rw [h 1]; omega

/-- Every point sees all scales of the weights. -/
theorem iblk_scale (c : Dev nD) (t : Fin cfg0.N) : (iblk m c 1 t : Vec Ideal S24x16 .f32) = inScale m c := by
  have h := (index_facts t).2.1
  funext j
  unfold iblk
  rw [View.read_apply]
  show V m c main_arg4 _ = V m c main_arg4 _
  congr 1
  funext a
  apply Fin.ext
  match a with
  | ⟨0, _⟩ => show win0_1.index t 0 * 24 + 1 * (j 0).val = (j 0).val; rw [h 0]; omega
  | ⟨1, _⟩ => show win0_1.index t 1 * 16 + 1 * (j 1).val = (j 1).val; rw [h 1]; omega

/-- Every point sees all full-precision columns. -/
theorem iblk_full (c : Dev nD) (t : Fin cfg0.N) : (iblk m c 3 t : Vec Ideal S3072x128 .bf16) = inFull m c := by
  have h := (index_facts t).2.2.1
  funext j
  unfold iblk
  rw [View.read_apply]
  show V m c main_arg2 _ = V m c main_arg2 _
  congr 1
  funext a
  apply Fin.ext
  match a with
  | ⟨0, _⟩ => show win0_3.index t 0 * 3072 + 1 * (j 0).val = (j 0).val; rw [h 0]; omega
  | ⟨1, _⟩ => show win0_3.index t 1 * 128 + 1 * (j 1).val = (j 1).val; rw [h 1]; omega

/-- Every point sees all codes of the weights. -/
theorem iblk_codes (c : Dev nD) (t : Fin cfg0.N) : (iblk m c 4 t : Vec Ideal S3072x2048 .fp8e4m3) = inCodes m c := by
  have h := (index_facts t).2.2.2.1
  funext j
  unfold iblk
  rw [View.read_apply]
  show V m c main_arg3 _ = V m c main_arg3 _
  congr 1
  funext a
  apply Fin.ext
  match a with
  | ⟨0, _⟩ => show win0_4.index t 0 * 3072 + 1 * (j 0).val = (j 0).val; rw [h 0]; omega
  | ⟨1, _⟩ => show win0_4.index t 1 * 2048 + 1 * (j 1).val = (j 1).val; rw [h 1]; omega

/-- Point `t` sees the rows `512 t`, …, `512 t + 511` of the activations. -/
theorem iblk_x (c : Dev nD) (t : Fin cfg0.N) (r : Fin 512) (col : Fin 2048) (hr : 512 * t.val + r.val < 12288) :
    (iblk m c 2 t : Vec Ideal S512x2048 .bf16) (ix2 r col) = inX m c (ix2 ⟨512 * t.val + r.val, hr⟩ col) := by
  have h := (index_facts t).2.2.2.2
  unfold iblk
  rw [View.read_apply]
  show V m c main_v1 _ = V m c main_v1 _
  congr 1
  funext a
  apply Fin.ext
  match a with
  | ⟨0, _⟩ => show win0_2.index t 0 * 512 + 1 * r.val = 512 * t.val + r.val; rw [h.1]; omega
  | ⟨1, _⟩ => show win0_2.index t 1 * 2048 + 1 * col.val = col.val; rw [h.2]; omega

/-! ## What is carried from point to point -/

/-- After every point the mask is the outliers', and the prepared weights are the same. -/
theorem carried (c : Dev nD) : ∀ (n : ℕ) (hn : n < cfg0.N),
    (∀ r col, (outsAt0 m c n hn).2.2.2.1 (ix2 r col) ≠ 0#32 ↔ ¬isOut (idxOf (inIdx m c)) col)
    ∧ (∀ o col, (outsAt0 m c n hn).2.2.2.2 (ix2 o col) = weight (idxOf (inIdx m c)) (inScale m c) (inFull m c) (inCodes m c) o col)
  | 0, hn => by
    rw [outsAt0_A m c ⟨0, hn⟩ rfl]
    dsimp only
    refine ⟨fun r col => ?_, fun o col => ?_⟩
    · rw [← iblk_idx m c ⟨0, hn⟩]
      exact sout0_A ..
    · rw [← iblk_idx m c ⟨0, hn⟩, ← iblk_scale m c ⟨0, hn⟩, ← iblk_full m c ⟨0, hn⟩, ← iblk_codes m c ⟨0, hn⟩]
      exact sout1_A ..
  | n + 1, hn => by
    have hN : cfg0.N = 24 := N_0
    have hB : ¬(⟨n + 1, hn⟩ : Fin cfg0.N).val % 24 = 0 := by dsimp only; omega
    rw [outsAt0_B m c ⟨n + 1, hn⟩ hB]
    exact carried c n (Nat.lt_of_succ_lt hn)

/-! ## What each point leaves in the outputs -/

/-- A row of the activations. -/
def rowOf (c : Dev nD) (i : Fin 12288) : Fin 2048 → EReal := fun col => inX m c (ix2 i col)

/-- An element of the product. -/
def prodOf (c : Dev nD) (i : Fin 12288) (o : Fin 3072) : EReal :=
  prod (idxOf (inIdx m c)) (rowOf m c i) (fun t => inFull m c (ix2 o t)) (fun col => inCodes m c (ix2 o col))
    (fun b => inScale m c (ix2 ⟨o.val / 128, by omega⟩ b))

/-- A point's rows are 512 consecutive rows of the activations. -/
theorem row_blk (c : Dev nD) (t : Fin cfg0.N) (r : Fin 512) (hr : 512 * t.val + r.val < 12288) :
    (fun col => (iblk m c 2 t : Vec Ideal S512x2048 .bf16) (ix2 r col)) = rowOf m c ⟨512 * t.val + r.val, hr⟩ :=
  funext fun col => iblk_x m c t r col hr

/-- The three outputs after a point. -/
theorem outputs (c : Dev nD) (t : Fin cfg0.N) (r : Fin 512) (hr : 512 * t.val + r.val < 12288) :
    (∀ o, (outsAt0 m c t.val t.isLt).1 (ix2 r o) = prodOf m c ⟨512 * t.val + r.val, hr⟩ o)
    ∧ (∀ col, (outsAt0 m c t.val t.isLt).2.1 (ix2 r col) = code (idxOf (inIdx m c)) (rowOf m c ⟨512 * t.val + r.val, hr⟩) col)
    ∧ (∀ b, (outsAt0 m c t.val t.isLt).2.2.1 (ix2 r b) = scale (idxOf (inIdx m c)) (rowOf m c ⟨512 * t.val + r.val, hr⟩) b) := by
  have hN : cfg0.N = 24 := N_0
  have hw := (carried m c t.val t.isLt).2
  by_cases h0 : t.val % 24 = 0
  · rw [outsAt0_A m c t h0] at hw ⊢
    dsimp only at hw ⊢
    rw [← row_blk m c t r hr, ← iblk_idx m c t] at *
    refine ⟨fun o => ?_, fun col => ?_, fun b => ?_⟩
    · rw [out5_A]
      unfold prodOf prod
      refine Finset.sum_congr rfl fun col _ => ?_
      rw [hw, iblk_idx m c t, row_blk m c t r hr]
      rfl
    · exact out6_A ..
    · exact out7_A ..
  · have hp := carried m c (t.val - 1) (Nat.lt_of_le_of_lt (Nat.sub_le _ _) t.isLt)
    rw [outsAt0_B m c t h0]
    dsimp only
    rw [← row_blk m c t r hr]
    refine ⟨fun o => ?_, fun col => ?_, fun b => ?_⟩
    · rw [out5_B (hkeep := hp.1)]
      unfold prodOf prod
      refine Finset.sum_congr rfl fun col _ => ?_
      rw [hp.2, row_blk m c t r hr]
      rfl
    · exact out6_B (hkeep := hp.1) ..
    · exact out7_B (hkeep := hp.1) ..

/-! ## The result arrays -/

/-- The fold of the points, by which `G5`, `G6` and `G7` are stated, is what the points leave. -/
theorem fold_eq (c : Dev nD) (n : ℕ) (h : 0 + n < cfg0.N) (t : Fin cfg0.N) (ht : n = t.val) :
    Pipeline.accAt (fun n h => stAt0 m c n h junk0) (stAt0 m c) 0 n h = outsAt0 m c t.val t.isLt := by
  subst ht
  exact (outsAt0_sweep m c t.val t.isLt).symm

/-- The product. -/
theorem y_eq (c : Dev nD) (i : Fin 12288) (o : Fin 3072) :
    (G5 m c : Vec Ideal S12288x3072 .bf16) (ix2 i o) = prodOf m c i o := by
  have hN : cfg0.N = 24 := N_0
  have hi : i.val / 512 < cfg0.N := by omega
  have hp : pt5Of (ix2 i o) = i.val / 512 := by
    show 1 * (i.val / 512 - 0) + 1 * (o.val / 3072 - 0) = _
    omega
  have hl : loc5Of (ix2 i o) = ix2 ⟨i.val % 512, by omega⟩ o := by
    funext a
    apply Fin.ext
    match a with
    | ⟨0, _⟩ => rfl
    | ⟨1, _⟩ => exact Nat.mod_eq_of_lt o.isLt
  unfold G5
  rw [dif_pos (by rw [hp]; exact hi), hl, fold_eq m c _ _ ⟨i.val / 512, hi⟩ hp]
  rw [(outputs m c ⟨i.val / 512, hi⟩ ⟨i.val % 512, by omega⟩ (by show 512 * (i.val / 512) + i.val % 512 < 12288; omega)).1 o]
  congr 1
  exact Fin.ext (Nat.div_add_mod _ _)

/-- The codes. -/
theorem codes_eq (c : Dev nD) (i : Fin 12288) (col : Fin 2048) :
    (G6 m c : Vec Ideal S12288x2048 .fp8e4m3) (ix2 i col) = code (idxOf (inIdx m c)) (rowOf m c i) col := by
  have hN : cfg0.N = 24 := N_0
  have hi : i.val / 512 < cfg0.N := by omega
  have hp : pt6Of (ix2 i col) = i.val / 512 := by
    show 1 * (i.val / 512 - 0) + 1 * (col.val / 2048 - 0) = _
    omega
  have hl : loc6Of (ix2 i col) = ix2 ⟨i.val % 512, by omega⟩ col := by
    funext a
    apply Fin.ext
    match a with
    | ⟨0, _⟩ => rfl
    | ⟨1, _⟩ => exact Nat.mod_eq_of_lt col.isLt
  unfold G6
  rw [dif_pos (by rw [hp]; exact hi), hl, fold_eq m c _ _ ⟨i.val / 512, hi⟩ hp]
  rw [(outputs m c ⟨i.val / 512, hi⟩ ⟨i.val % 512, by omega⟩ (by show 512 * (i.val / 512) + i.val % 512 < 12288; omega)).2.1 col]
  congr 2
  exact Fin.ext (Nat.div_add_mod _ _)

/-- The scales. -/
theorem scales_eq (c : Dev nD) (i : Fin 12288) (b : Fin 16) :
    (G7 m c : Vec Ideal S12288x16 .f32) (ix2 i b) = scale (idxOf (inIdx m c)) (rowOf m c i) b := by
  have hN : cfg0.N = 24 := N_0
  have hi : i.val / 512 < cfg0.N := by omega
  have hp : pt7Of (ix2 i b) = i.val / 512 := by
    show 1 * (i.val / 512 - 0) + 1 * (b.val / 16 - 0) = _
    omega
  have hl : loc7Of (ix2 i b) = ix2 ⟨i.val % 512, by omega⟩ b := by
    funext a
    apply Fin.ext
    match a with
    | ⟨0, _⟩ => rfl
    | ⟨1, _⟩ => exact Nat.mod_eq_of_lt b.isLt
  unfold G7
  rw [dif_pos (by rw [hp]; exact hi), hl, fold_eq m c _ _ ⟨i.val / 512, hi⟩ hp]
  rw [(outputs m c ⟨i.val / 512, hi⟩ ⟨i.val % 512, by omega⟩ (by show 512 * (i.val / 512) + i.val % 512 < 12288; omega)).2.2 b]
  congr 2
  exact Fin.ext (Nat.div_add_mod _ _)

end Cert.KernelIdeal.Value

end
-- ==== Proof.RefBlock.lean ====
/-
  What the reference's operations compute over the extended reals, element by element, in the words of `Spec`.
-/
module

public import proofs.«01_k».proof.Proof.Spec
public import proofs.«01_k».proof.Proof.Gen.ReferenceIdeal.Frame
public import Idealize.ShloMosaic.Lib.Pointwise

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Quant Classical

/-- The outlier positions held by an array of 128 × 1 words. -/
def idxOf (I : Vec Ideal S128x1 .i32) : Fin 128 → BitVec 32 := fun t => I (ix2 t 0)

/-- A row of the activations. -/
def rowOf (X : Vec Ideal S12288x2048 .bf16) (r : Fin 12288) : Fin 2048 → EReal := fun col => X (ix2 r col)

/-- The flag of an outlier's column: one of the positions is the column. -/
theorem out_apply (I : Vec Ideal S128x1 .i32) (col : Fin 2048) :
    k0_pay3 (F := Ideal) I (ix2 0 col) = BitVec.ofBool (decide (isOut (idxOf I) col)) := by
  unfold k0_pay3 k0_pay2
  pointwise
  rw [lit_neginf]
  refine congrArg BitVec.ofBool (decide_eq_decide.mpr ?_)
  refine (Finset.lt_fold_max _).trans ?_
  constructor
  · rintro (h | ⟨t, _, h⟩)
    · exact absurd h (by simp)
    · refine ⟨t, ?_⟩
      by_contra hn
      change 0 < Scalar.select (BitVec.ofBool (I (ix2 t 0) == BitVec.ofNat 32 col.val)) (1 : EReal) 0 at h
      rw [show (I (ix2 t 0) == BitVec.ofNat 32 col.val) = false from beq_eq_false_iff_ne.mpr hn] at h
      exact absurd h (lt_irrefl _)
  · rintro ⟨t, h⟩
    refine .inr ⟨t, Finset.mem_univ _, ?_⟩
    show 0 < Scalar.select (BitVec.ofBool (I (ix2 t 0) == BitVec.ofNat 32 col.val)) (1 : EReal) 0
    rw [show (I (ix2 t 0) == BitVec.ofNat 32 col.val) = true from beq_iff_eq.mpr h]
    exact zero_lt_one

/-- The activations that are quantised, block by block. -/
theorem in_apply (X : Vec Ideal S12288x2048 .bf16) (I : Vec Ideal S128x1 .i32) (r : Fin 12288) (b : Fin 16) (l : Fin 128) :
    k0_pay4 (F := Ideal) X I (ix3 r b l) = xin (idxOf I) (rowOf X r) (lane b l) := by
  have h : ∀ j : Fin 2048, j = lane b l → Scalar.select (k0_pay3 (F := Ideal) I (ix2 0 j)) 0 (X (ix2 r j)) = xin (idxOf I) (rowOf X r) (lane b l) := by
    rintro _ rfl
    rw [out_apply, Scalar.select_ofBool, xin]
    refine if_congr (by simp) rfl rfl
  unfold k0_pay4 k0_pay1
  pointwise
  exact h _ (Fin.ext (by show b.val * 128 + l.val = 128 * b.val + l.val; omega))

/-- The disjunction of two flags. -/
theorem ori_bool : ∀ p q : Bool, IntOp.ori (BitVec.ofBool p) (BitVec.ofBool q) = BitVec.ofBool (p || q) := by decide

/-- The exponents of the blocks' scales. -/
theorem expo_apply (X : Vec Ideal S12288x2048 .bf16) (I : Vec Ideal S128x1 .i32) (r : Fin 12288) (b : Fin 16) :
    k0_pay5 (F := Ideal) X I (ix2 r b) = expo (idxOf I) (rowOf X r) b := by
  have h := fun l => in_apply X I r b l
  unfold k0_pay5
  generalize k0_pay4 (F := Ideal) X I = v at h
  pointwise
  have hm : Finset.fold max (⊥ : EReal) (fun x => FloatOps.absf (F := Ideal) (φ := .f32) (v (ix3 r b x))) Finset.univ = amax (idxOf I) (rowOf X r) b := by
    rw [amax]
    refine Finset.fold_congr fun l _ => ?_
    rw [h l]
    rfl
  rw [lit_neginf, hm, lit_448, lit_tiny, lit_inf, lit_2, lit_120, expo, refExp, ori_bool, Scalar.select_ofBool]
  refine if_congr (by simp) rfl rfl

/-- The scales. -/
theorem scale_apply (X : Vec Ideal S12288x2048 .bf16) (I : Vec Ideal S128x1 .i32) (r : Fin 12288) (b : Fin 16) :
    k0_pay6 (F := Ideal) (k0_pay5 X I) (ix2 r b) = scale (idxOf I) (rowOf X r) b := by
  have h := expo_apply X I r b
  unfold k0_pay6
  generalize k0_pay5 (F := Ideal) X I = e at h
  pointwise
  rw [h, scale]
  rfl

/-- The codes, block by block. -/
theorem codeBlk_apply (X : Vec Ideal S12288x2048 .bf16) (I : Vec Ideal S128x1 .i32) (r : Fin 12288) (b : Fin 16) (l : Fin 128) :
    k0_pay7 (F := Ideal) (k0_pay4 X I) (k0_pay5 X I) (ix3 r b l) = code (idxOf I) (rowOf X r) (lane b l) := by
  have h := expo_apply X I r b
  have hv := in_apply X I r b l
  unfold k0_pay7
  generalize k0_pay5 (F := Ideal) X I = e at h
  generalize k0_pay4 (F := Ideal) X I = v at hv
  pointwise
  rw [h, hv, lit_448, lit_neg448, code, blk_lane]
  rfl

/-- The codes, a row's side by side. -/
theorem code_apply (X : Vec Ideal S12288x2048 .bf16) (I : Vec Ideal S128x1 .i32) (r : Fin 12288) (col : Fin 2048) :
    k0_pay9 (F := Ideal) (k0_pay4 X I) (k0_pay5 X I) (ix2 r col) = code (idxOf I) (rowOf X r) col := by
  have h := codeBlk_apply X I r (blk col) (lan col)
  rw [lane_blk] at h
  unfold k0_pay9
  generalize k0_pay7 (F := Ideal) (k0_pay4 X I) (k0_pay5 X I) = q at h
  pointwise
  exact h

/-- The product. -/
theorem prod_apply (X : Vec Ideal S12288x2048 .bf16) (I : Vec Ideal S128x1 .i32) (Wo : Vec Ideal S3072x128 .bf16)
    (Wc : Vec Ideal S3072x2048 .fp8e4m3) (Ws : Vec Ideal S24x16 .f32) (r : Fin 12288) (o : Fin 3072) :
    k0_pay8 (F := Ideal) (k0_pay1 X) Wo (k0_pay2 I) (k0_pay3 I) (k0_pay4 X I) (k0_pay5 X I) Ws Wc (ix2 r o)
      = prod (idxOf I) (rowOf X r) (fun t => Wo (ix2 o t)) (fun col => Wc (ix2 o col)) (fun b => Ws (ix2 ⟨o.val / 128, by omega⟩ b)) := by
  have hq := fun b l => codeBlk_apply X I r b l
  have hs := fun b => scale_apply X I r b
  have ho := fun col => out_apply I col
  unfold k0_pay8
  generalize k0_pay7 (F := Ideal) (k0_pay4 X I) (k0_pay5 X I) = q at hq
  generalize k0_pay6 (F := Ideal) (k0_pay5 X I) = s at hs
  generalize k0_pay3 (F := Ideal) I = f at ho
  unfold k0_pay1 k0_pay2
  pointwise
  unfold prod
  refine Finset.sum_congr rfl fun col _ => ?_
  have hq' := hq (blk col) (lan col)
  have hs' := hs (blk col)
  rw [lane_blk] at hq'
  have hx : Scalar.select (f (ix2 0 col)) (X (ix2 r col)) (q (ix3 r (blk col) (lan col)) * s (ix2 r (blk col)))
      = comb (idxOf I) (rowOf X r) col := by
    rw [ho, hq', hs', Scalar.select_ofBool, comb]
    exact if_congr (by simp) rfl rfl
  have hw : Scalar.select (f (ix2 0 col)) (∑ t : Fin 128, Wo (ix2 o t) * FloatOps.sitofp (F := Ideal) .f32
        (BitVec.setWidth 32 (IntOp.cmpi .eq (I (ix2 t 0)) (BitVec.ofNat 32 col.val))))
        (Wc (ix2 o col) * Ws (ix2 ⟨o.val / 128, by omega⟩ (blk col)))
      = wcomb (idxOf I) (fun t => Wo (ix2 o t)) (Wc (ix2 o col)) (Ws (ix2 ⟨o.val / 128, by omega⟩ (blk col))) col := by
    rw [ho, Scalar.select_ofBool, wcomb]
    refine if_congr (by simp) (Finset.sum_congr rfl fun t _ => ?_) rfl
    exact congrArg (Wo (ix2 o t) * ·) (sitofp_eq _ _)
  exact congrArg₂ (· * ·) hx hw

end Cert.ReferenceIdeal.Value

end
-- ==== Proof.RefRun.lean ====
/-
  What the reference leaves: its one pass over the whole arrays, run, and the three results element by element in the words of
  `Spec`.
-/
module

public import proofs.«01_k».proof.Proof.RefBlock
public import Idealize.ShloMosaic.Lib.Pipeline.Value

@[expose] public section

set_option maxRecDepth 16384

noncomputable section

namespace Cert.ReferenceIdeal.Value

open Cert.ReferenceIdeal Cert.ReferenceIdeal.Gen Idealize.ShloMosaic Idealize.ShloMosaic.TcCoe Idealize.SL.Sem Cert.Quant Classical
open Idealize.ShloMosaic.Pipeline (Dat)

variable (m : (ℓ : Loc nD τ sig) → Buf (Elt Ideal) ℓ) (ρ : Dev nD → PrngReg)

/-! ## The arrays that the pass reads -/

/-- The activations, one row per token. -/
abbrev inX (c : Dev nD) : Vec Ideal S12288x2048 .bf16 := V m c main_v0
/-- The outlier positions, one word per row. -/
abbrev inIdx (c : Dev nD) : Vec Ideal S128x1 .i32 := V m c main_v1
/-- The full-precision columns of the weights. -/
abbrev inFull (c : Dev nD) : Vec Ideal S3072x128 .bf16 := V m c main_arg2
/-- The weights' codes. -/
abbrev inCodes (c : Dev nD) : Vec Ideal S3072x2048 .fp8e4m3 := V m c main_arg3
/-- The weights' scales. -/
abbrev inScale (c : Dev nD) : Vec Ideal S24x16 .f32 := V m c main_arg4

/-- The one point. -/
def t₀ : Fin cfg0.N := ⟨0, by decide⟩

/-- The one block of the activations is the whole array. -/
theorem iblk_x (c : Dev nD) : (iblk m c 0 t₀ : Vec Ideal S12288x2048 .bf16) = inX m c := by
  funext j; unfold iblk; rw [View.read_apply]
  show V m c main_v0 _ = V m c main_v0 _
  congr 1; funext a; apply Fin.ext
  match a with
  | ⟨0, _⟩ => show 0 * 12288 + 1 * (j 0).val = (j 0).val; omega
  | ⟨1, _⟩ => show 0 * 2048 + 1 * (j 1).val = (j 1).val; omega

/-- The one block of the positions is the whole array. -/
theorem iblk_idx (c : Dev nD) : (iblk m c 1 t₀ : Vec Ideal S128x1 .i32) = inIdx m c := by
  funext j; unfold iblk; rw [View.read_apply]
  show V m c main_v1 _ = V m c main_v1 _
  congr 1; funext a; apply Fin.ext
  match a with
  | ⟨0, _⟩ => show 0 * 128 + 1 * (j 0).val = (j 0).val; omega
  | ⟨1, _⟩ => show 0 * 1 + 1 * (j 1).val = (j 1).val; omega

/-- The one block of the full-precision columns is the whole array. -/
theorem iblk_full (c : Dev nD) : (iblk m c 2 t₀ : Vec Ideal S3072x128 .bf16) = inFull m c := by
  funext j; unfold iblk; rw [View.read_apply]
  show V m c main_arg2 _ = V m c main_arg2 _
  congr 1; funext a; apply Fin.ext
  match a with
  | ⟨0, _⟩ => show 0 * 3072 + 1 * (j 0).val = (j 0).val; omega
  | ⟨1, _⟩ => show 0 * 128 + 1 * (j 1).val = (j 1).val; omega

/-- The one block of the weights' codes is the whole array. -/
theorem iblk_codes (c : Dev nD) : (iblk m c 3 t₀ : Vec Ideal S3072x2048 .fp8e4m3) = inCodes m c := by
  funext j; unfold iblk; rw [View.read_apply]
  show V m c main_arg3 _ = V m c main_arg3 _
  congr 1; funext a; apply Fin.ext
  match a with
  | ⟨0, _⟩ => show 0 * 3072 + 1 * (j 0).val = (j 0).val; omega
  | ⟨1, _⟩ => show 0 * 2048 + 1 * (j 1).val = (j 1).val; omega

/-- The one block of the weights' scales is the whole array. -/
theorem iblk_scale (c : Dev nD) : (iblk m c 4 t₀ : Vec Ideal S24x16 .f32) = inScale m c := by
  funext j; unfold iblk; rw [View.read_apply]
  show V m c main_arg4 _ = V m c main_arg4 _
  congr 1; funext a; apply Fin.ext
  match a with
  | ⟨0, _⟩ => show 0 * 24 + 1 * (j 0).val = (j 0).val; omega
  | ⟨1, _⟩ => show 0 * 16 + 1 * (j 1).val = (j 1).val; omega

/-! ## What the pass leaves in its buffers -/

/-- Two coordinates that are both 0. -/
theorem zero2 {n : ℕ} (hn : n = 2) : (fun a : Fin n => (![0, 0] : Fin 2 → ℕ) (Fin.cast hn a)) = fun _ => 0 := by
  subst hn; funext a; fin_cases a <;> rfl

/-- The product's buffer holds the product of the buffers read. -/
theorem out5_eq (x0 : Vec Ideal S12288x2048 .bf16) (x1 : Vec Ideal S128x1 .i32) (x2 : Vec Ideal S3072x128 .bf16)
    (x3 : Vec Ideal S3072x2048 .fp8e4m3) (x4 : Vec Ideal S24x16 .f32) :
    out0_5 x0 x1 x2 x3 x4 = k0_pay8 (k0_pay1 x0) x2 (k0_pay2 x1) (k0_pay3 x1) (k0_pay4 x0 x1) (k0_pay5 x0 x1) x4 x3 := by
  unfold out0_5 k0_pay10 k0_pay11
  rw [View.canon_unit_zero (zero2 rfl), View.ld_unit_zero (zero2 rfl), View.ld_unit_zero (zero2 rfl), View.ld_unit_zero (zero2 rfl),
    View.ld_unit_zero (zero2 rfl), View.ld_unit_zero (zero2 rfl)]

/-- The codes' buffer holds the codes of the buffers read. -/
theorem out6_eq (x0 : Vec Ideal S12288x2048 .bf16) (x1 : Vec Ideal S128x1 .i32) (x2 : Vec Ideal S3072x128 .bf16)
    (x3 : Vec Ideal S3072x2048 .fp8e4m3) (x4 : Vec Ideal S24x16 .f32) :
    out0_6 x0 x1 x2 x3 x4 = k0_pay9 (k0_pay4 x0 x1) (k0_pay5 x0 x1) := by
  unfold out0_6 k0_pay10 k0_pay11
  rw [View.canon_unit_zero (zero2 rfl), View.ld_unit_zero (zero2 rfl), View.ld_unit_zero (zero2 rfl)]

/-- The scales' buffer holds the scales of the buffers read. -/
theorem out7_eq (x0 : Vec Ideal S12288x2048 .bf16) (x1 : Vec Ideal S128x1 .i32) (x2 : Vec Ideal S3072x128 .bf16)
    (x3 : Vec Ideal S3072x2048 .fp8e4m3) (x4 : Vec Ideal S24x16 .f32) :
    out0_7 x0 x1 x2 x3 x4 = k0_pay6 (k0_pay5 x0 x1) := by
  unfold out0_7 k0_pay11
  rw [View.canon_unit_zero (zero2 rfl), View.ld_unit_zero (zero2 rfl), View.ld_unit_zero (zero2 rfl)]

/-! ## The result arrays -/

/-- The product, after the run. -/
theorem final5 (c : Dev nD) : ((dats m 0 c).arrAt 5 cfg0.N : Vec Ideal S12288x3072 .bf16)
    = k0_pay8 (k0_pay1 (inX m c)) (inFull m c) (k0_pay2 (inIdx m c)) (k0_pay3 (inIdx m c)) (k0_pay4 (inX m c) (inIdx m c))
        (k0_pay5 (inX m c) (inIdx m c)) (inScale m c) (inCodes m c) := by
  have h : ((cfg0.win 5).blk t₀).view.read (Elt Ideal) ((dats m 0 c).arrAt 5 cfg0.N) = (dats m 0 c).flushed 5 t₀ := by
    rw [show cfg0.N = (t₀ : Fin cfg0.N).val + 1 from rfl, (dats m 0 c).arrAt_succ 5 t₀,
      show (cfg0.win 5).flush t₀ = true from by decide, if_pos rfl]
    exact View.read_write_univ _ _
  have hz : (fun a => (win0_5.index t₀) a * main_v2_0.ty.shape.size a) = fun _ => 0 := funext fun a => by fin_cases a <;> decide
  have hr := fun f => Memref.read_access_unit_zero (Elt Ideal) main_v2_0 hz (fun a => by fin_cases a <;> decide) f
  rw [hr] at h
  rw [h]
  show (cfg0.win 5).cut _ ((dats m 0 c).after 5 t₀) = _
  rw [after0_5, out5_eq, iblk_x, iblk_idx, iblk_full, iblk_codes, iblk_scale]
  rfl

/-- The codes, after the run. -/
theorem final6 (c : Dev nD) : ((dats m 0 c).arrAt 6 cfg0.N : Vec Ideal S12288x2048 .fp8e4m3)
    = k0_pay9 (k0_pay4 (inX m c) (inIdx m c)) (k0_pay5 (inX m c) (inIdx m c)) := by
  have h : ((cfg0.win 6).blk t₀).view.read (Elt Ideal) ((dats m 0 c).arrAt 6 cfg0.N) = (dats m 0 c).flushed 6 t₀ := by
    rw [show cfg0.N = (t₀ : Fin cfg0.N).val + 1 from rfl, (dats m 0 c).arrAt_succ 6 t₀,
      show (cfg0.win 6).flush t₀ = true from by decide, if_pos rfl]
    exact View.read_write_univ _ _
  have hz : (fun a => (win0_6.index t₀) a * main_v2_1.ty.shape.size a) = fun _ => 0 := funext fun a => by fin_cases a <;> decide
  have hr := fun f => Memref.read_access_unit_zero (Elt Ideal) main_v2_1 hz (fun a => by fin_cases a <;> decide) f
  rw [hr] at h
  rw [h]
  show (cfg0.win 6).cut _ ((dats m 0 c).after 6 t₀) = _
  rw [after0_6, out6_eq, iblk_x, iblk_idx]
  rfl

/-- The scales, after the run. -/
theorem final7 (c : Dev nD) : ((dats m 0 c).arrAt 7 cfg0.N : Vec Ideal S12288x16 .f32)
    = k0_pay6 (k0_pay5 (inX m c) (inIdx m c)) := by
  have h : ((cfg0.win 7).blk t₀).view.read (Elt Ideal) ((dats m 0 c).arrAt 7 cfg0.N) = (dats m 0 c).flushed 7 t₀ := by
    rw [show cfg0.N = (t₀ : Fin cfg0.N).val + 1 from rfl, (dats m 0 c).arrAt_succ 7 t₀,
      show (cfg0.win 7).flush t₀ = true from by decide, if_pos rfl]
    exact View.read_write_univ _ _
  have hz : (fun a => (win0_7.index t₀) a * main_v2_2.ty.shape.size a) = fun _ => 0 := funext fun a => by fin_cases a <;> decide
  have hr := fun f => Memref.read_access_unit_zero (Elt Ideal) main_v2_2 hz (fun a => by fin_cases a <;> decide) f
  rw [hr] at h
  rw [h]
  show (cfg0.win 7).cut _ ((dats m 0 c).after 7 t₀) = _
  rw [after0_7, out7_eq, iblk_x, iblk_idx]
  rfl

/-- The reference's run: the three results as the arrays above, the arguments unchanged. -/
theorem run : θ_run defs (onTc (τ := τ) (main (F := Ideal))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_v2_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5, (h c).1 6, (h c).1 7,
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c)))⟩)
    (run_main m ρ)

/-! ## Element by element -/

/-- The product. -/
theorem y_eq (c : Dev nD) (i : Fin 12288) (o : Fin 3072) :
    ((dats m 0 c).arrAt 5 cfg0.N : Vec Ideal S12288x3072 .bf16) (ix2 i o)
      = prod (idxOf (inIdx m c)) (rowOf (inX m c) i) (fun t => inFull m c (ix2 o t)) (fun col => inCodes m c (ix2 o col))
        (fun b => inScale m c (ix2 ⟨o.val / 128, by omega⟩ b)) :=
  (congrFun (final5 m c) (ix2 i o)).trans (prod_apply ..)

/-- The codes. -/
theorem codes_eq (c : Dev nD) (i : Fin 12288) (col : Fin 2048) :
    ((dats m 0 c).arrAt 6 cfg0.N : Vec Ideal S12288x2048 .fp8e4m3) (ix2 i col) = code (idxOf (inIdx m c)) (rowOf (inX m c) i) col :=
  (congrFun (final6 m c) (ix2 i col)).trans (code_apply ..)

/-- The scales. -/
theorem scales_eq (c : Dev nD) (i : Fin 12288) (b : Fin 16) :
    ((dats m 0 c).arrAt 7 cfg0.N : Vec Ideal S12288x16 .f32) (ix2 i b) = scale (idxOf (inIdx m c)) (rowOf (inX m c) i) b :=
  (congrFun (final7 m c) (ix2 i b)).trans (scale_apply ..)

end Cert.ReferenceIdeal.Value

end
-- ==== Proof.Equation.lean ====
/-
  The kernel and the reference leave the same three arrays, given the same arguments.
-/
module

public import proofs.«01_k».proof.Proof.Arrays
public import proofs.«01_k».proof.Proof.RefRun

@[expose] public section

set_option maxRecDepth 16384

noncomputable section

namespace Cert.Quant

open Idealize.ShloMosaic Idealize.ShloMosaic.TcCoe Idealize.SL.Sem

/-! ## What the host hands to the kernel and to the reference -/

section host

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)
  (c : Dev KernelIdeal.nD)

  (harg : m' ((c.tc : Thread ReferenceIdeal.nD ReferenceIdeal.τ).loc ReferenceIdeal.main_arg0)
        = m ((c.tc : Thread KernelIdeal.nD KernelIdeal.τ).loc KernelIdeal.main_arg0)
      ∧ m' ((c.tc : Thread ReferenceIdeal.nD ReferenceIdeal.τ).loc ReferenceIdeal.main_arg1)
        = m ((c.tc : Thread KernelIdeal.nD KernelIdeal.τ).loc KernelIdeal.main_arg1)
      ∧ m' ((c.tc : Thread ReferenceIdeal.nD ReferenceIdeal.τ).loc ReferenceIdeal.main_arg2)
        = m ((c.tc : Thread KernelIdeal.nD KernelIdeal.τ).loc KernelIdeal.main_arg2)
      ∧ m' ((c.tc : Thread ReferenceIdeal.nD ReferenceIdeal.τ).loc ReferenceIdeal.main_arg3)
        = m ((c.tc : Thread KernelIdeal.nD KernelIdeal.τ).loc KernelIdeal.main_arg3)
      ∧ m' ((c.tc : Thread ReferenceIdeal.nD ReferenceIdeal.τ).loc ReferenceIdeal.main_arg4)
        = m ((c.tc : Thread KernelIdeal.nD KernelIdeal.τ).loc KernelIdeal.main_arg4))

include harg

/-- The same positions. -/
theorem idx_same : ReferenceIdeal.Value.idxOf (ReferenceIdeal.Value.inIdx m' c)
    = KernelIdeal.Value.idxOf (KernelIdeal.Value.inIdx m c) := by
  have hk : KernelIdeal.Value.inIdx m c
      = broadcastInDim KernelIdeal.S128x1 ![0] KernelIdeal.Facts₀.bcast_S128_S128x1_0
          (m ((c.tc : Thread KernelIdeal.nD KernelIdeal.τ).loc KernelIdeal.main_arg1)) := by
    show StableHlo.after KernelIdeal.Gen.hostOps0 _ (Proc.devRef .tc KernelIdeal.main_v0) = _
    rw [StableHlo.after_cons, StableHlo.after_cons, StableHlo.after_nil, StableHlo.reshape_result_ne, StableHlo.unary_result]
    decide
  have hr : ReferenceIdeal.Value.inIdx m' c
      = broadcastInDim ReferenceIdeal.S128x1 ![0] ReferenceIdeal.Facts₀.bcast_S128_S128x1_0
          (m' ((c.tc : Thread ReferenceIdeal.nD ReferenceIdeal.τ).loc ReferenceIdeal.main_arg1)) := by
    show StableHlo.after ReferenceIdeal.Gen.hostOps0 _ (Proc.devRef .tc ReferenceIdeal.main_v1) = _
    rw [StableHlo.after_cons, StableHlo.after_cons, StableHlo.after_nil, StableHlo.unary_result, StableHlo.reshape_result_ne]
    decide
  unfold ReferenceIdeal.Value.idxOf KernelIdeal.Value.idxOf
  rw [hk, hr, harg.2.1]

/-- The same activations. -/
theorem x_same : ReferenceIdeal.Value.inX m' c = KernelIdeal.Value.inX m c := by
  have hk : KernelIdeal.Value.inX m c
      = shapeCast KernelIdeal.S12288x2048 (m ((c.tc : Thread KernelIdeal.nD KernelIdeal.τ).loc KernelIdeal.main_arg0))
          KernelIdeal.Facts₀.shapeCasts_S2x6144x2048_S12288x2048 := by
    show StableHlo.after KernelIdeal.Gen.hostOps0 _ (Proc.devRef .tc KernelIdeal.main_v1) = _
    rw [StableHlo.after_cons, StableHlo.after_cons, StableHlo.after_nil, StableHlo.reshape_result, StableHlo.unary_result_ne]
    · rfl
    · decide
  have hr : ReferenceIdeal.Value.inX m' c
      = shapeCast ReferenceIdeal.S12288x2048 (m' ((c.tc : Thread ReferenceIdeal.nD ReferenceIdeal.τ).loc ReferenceIdeal.main_arg0))
          ReferenceIdeal.Facts₀.shapeCasts_S2x6144x2048_S12288x2048 := by
    show StableHlo.after ReferenceIdeal.Gen.hostOps0 _ (Proc.devRef .tc ReferenceIdeal.main_v0) = _
    rw [StableHlo.after_cons, StableHlo.after_cons, StableHlo.after_nil, StableHlo.unary_result_ne, StableHlo.reshape_result]
    · rfl
    · decide
  rw [hk, hr, harg.1]

/-- The same full-precision columns. -/
theorem full_same : ReferenceIdeal.Value.inFull m' c = KernelIdeal.Value.inFull m c :=
  (ReferenceIdeal.Gen.V_main_arg2 m' c).trans (harg.2.2.1.trans (KernelIdeal.Gen.V_main_arg2 m c).symm)

/-- The same codes of the weights. -/
theorem codes_same : ReferenceIdeal.Value.inCodes m' c = KernelIdeal.Value.inCodes m c :=
  (ReferenceIdeal.Gen.V_main_arg3 m' c).trans (harg.2.2.2.1.trans (KernelIdeal.Gen.V_main_arg3 m c).symm)

/-- The same scales of the weights. -/
theorem scale_same : ReferenceIdeal.Value.inScale m' c = KernelIdeal.Value.inScale m c :=
  (ReferenceIdeal.Gen.V_main_arg4 m' c).trans (harg.2.2.2.2.trans (KernelIdeal.Gen.V_main_arg4 m c).symm)

/-! ## The three results -/

/-- The same products. -/
theorem result5 : ((ReferenceIdeal.Gen.dats m' 0 c).arrAt 5 ReferenceIdeal.cfg0.N : Vec Ideal KernelIdeal.S12288x3072 .bf16)
    = KernelIdeal.Value.G5 m c := by
  refine funext fun j => ?_
  rw [eq_ix2 j]
  refine (ReferenceIdeal.Value.y_eq m' c (j 0) (j 1)).trans (Eq.trans ?_ (KernelIdeal.Value.y_eq m c (j 0) (j 1)).symm)
  rw [idx_same m m' c harg, x_same m m' c harg, full_same m m' c harg, codes_same m m' c harg, scale_same m m' c harg]
  rfl

/-- The same codes. -/
theorem result6 : ((ReferenceIdeal.Gen.dats m' 0 c).arrAt 6 ReferenceIdeal.cfg0.N : Vec Ideal KernelIdeal.S12288x2048 .fp8e4m3)
    = KernelIdeal.Value.G6 m c := by
  refine funext fun j => ?_
  rw [eq_ix2 j]
  refine (ReferenceIdeal.Value.codes_eq m' c (j 0) (j 1)).trans (Eq.trans ?_ (KernelIdeal.Value.codes_eq m c (j 0) (j 1)).symm)
  rw [idx_same m m' c harg, x_same m m' c harg]
  rfl

/-- The same scales. -/
theorem result7 : ((ReferenceIdeal.Gen.dats m' 0 c).arrAt 7 ReferenceIdeal.cfg0.N : Vec Ideal KernelIdeal.S12288x16 .f32)
    = KernelIdeal.Value.G7 m c := by
  refine funext fun j => ?_
  rw [eq_ix2 j]
  refine (ReferenceIdeal.Value.scales_eq m' c (j 0) (j 1)).trans (Eq.trans ?_ (KernelIdeal.Value.scales_eq m c (j 0) (j 1)).symm)
  rw [idx_same m m' c harg, x_same m m' c harg]
  rfl

end host

end Cert.Quant

end
-- ==== Proof.lean ====
/-
  The certificate: the kernel, its reading over the extended reals and the reference's run to their end without a fault and keep
  their arguments; and the kernel and the reference leave the same three arrays.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The kernel and the reference leave the same three arrays: those of the kernel's run, which the reference's are equal to. -/
theorem same : Cert.algebraic_KernelIdeal_ReferenceIdeal (hKernelIdeal := Cert.KernelIdeal.Gen.facts)
    (hReferenceIdeal := Cert.ReferenceIdeal.Gen.facts) := by
  intro m g m' g' _ harg
  refine ⟨fun c => Cert.KernelIdeal.Value.G5 m c, fun c => Cert.KernelIdeal.Value.G6 m c, fun c => Cert.KernelIdeal.Value.G7 m c,
    Cert.KernelIdeal.Value.run m g, ?_⟩
  refine (θ_run _ _ _).mono (fun r h c => ?_) (Cert.ReferenceIdeal.Value.run m' g')
  obtain ⟨h5, h6, h7, ha⟩ := h c
  exact ⟨h5.trans (Cert.Quant.result5 m m' c (harg c)), h6.trans (Cert.Quant.result6 m m' c (harg c)),
    h7.trans (Cert.Quant.result7 m m' c (harg c)), ha⟩

/-- Everything the certificate claims: the three programs run without a fault and keep their arguments, the kernel is its own
    idealization, and kernel and reference agree. -/
theorem claim : Cert.Claim := ⟨Cert.Kernel.Gen.facts, Cert.KernelIdeal.Gen.facts, Cert.ReferenceIdeal.Gen.facts, fun m ρ _ => Cert.Kernel.Gen.frame m ρ, fun m ρ _ => Cert.KernelIdeal.Gen.frame m ρ, fun m ρ _ => Cert.ReferenceIdeal.Gen.frame m ρ, trivial, same⟩

end Cert.Proof

end
